-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S32x16x512 : Shape := ⟨3, ![32, 16, 512]⟩
abbrev S16x512 : Shape := ⟨2, ![16, 512]⟩
abbrev S32 : Shape := ⟨1, ![32]⟩
abbrev S_ : Shape := ⟨0, ![]⟩
abbrev S1 : Shape := ⟨1, ![1]⟩
abbrev S1x16x512 : Shape := ⟨3, ![1, 16, 512]⟩

abbrev nBuf : Space → Nat
  | .hbm => 3
  | .vmem => 8
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S512x512, .f32⟩
  | .local _ .vmem, ⟨0, _⟩ => ⟨S512x256, .bf16⟩
  | .local _ .vmem, ⟨1, _⟩ => ⟨S256x512, .bf16⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S32x16x512, .bf16⟩
  | .local _ .vmem, ⟨6, _⟩ => ⟨S16x512, .bf16⟩
  | .local _ .vmem, ⟨7, _⟩ => ⟨S32x16x512, .bf16⟩
  | _, _ => ⟨S512x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_140 : BitVec 32 := 0#32
  let c0_i32_141 : BitVec 32 := 0#32
  ![v2.toNat, 0, 0]
def k0_off3 (d0 : Dev nD) (c1_i32_134 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v141 : BitVec 32 := Scalar.addi v2 c1_i32_134
  let c32_i32_135 : BitVec 32 := 32#32
  let v142 : BitVec 32 := Scalar.remsi v141 c32_i32_135
  let c16_i32_136 : BitVec 32 := 16#32
  let v143 : BitVec 32 := Scalar.muli v142 c16_i32_136
  let c0_i32_142 : BitVec 32 := 0#32
  ![v143.toNat, 0]
def k0_dev32 (d0 : Dev nD) : Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_134 : BitVec 32 := 1#32
  let v141 : BitVec 32 := Scalar.addi v2 c1_i32_134
  let c32_i32_135 : BitVec 32 := 32#32
  let v142 : BitVec 32 := Scalar.remsi v141 c32_i32_135
  let c1_i32_138 : BitVec 32 := 1#32
  let v144 : BitVec 32 := Scalar.muli v142 c1_i32_138
  let v145 : BitVec 32 := Scalar.addi c0_i32_139 v144
  v145.toNat
def k0_dev33 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_143 : BitVec 32 := 2#32
  let v153 : BitVec 32 := Scalar.addi v2 c2_i32_143
  let c32_i32_144 : BitVec 32 := 32#32
  let v154 : BitVec 32 := Scalar.remsi v153 c32_i32_144
  let c1_i32_147 : BitVec 32 := 1#32
  let v156 : BitVec 32 := Scalar.muli v154 c1_i32_147
  let v157 : BitVec 32 := Scalar.addi c0_i32_148 v156
  v157.toNat
def k0_dev34 (d0 : Dev nD) : Nat :=
  let c0_i32_157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_152 : BitVec 32 := 3#32
  let v165 : BitVec 32 := Scalar.addi v2 c3_i32_152
  let c32_i32_153 : BitVec 32 := 32#32
  let v166 : BitVec 32 := Scalar.remsi v165 c32_i32_153
  let c1_i32_156 : BitVec 32 := 1#32
  let v168 : BitVec 32 := Scalar.muli v166 c1_i32_156
  let v169 : BitVec 32 := Scalar.addi c0_i32_157 v168
  v169.toNat
def k0_dev35 (d0 : Dev nD) : Nat :=
  let c0_i32_166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_161 : BitVec 32 := 4#32
  let v177 : BitVec 32 := Scalar.addi v2 c4_i32_161
  let c32_i32_162 : BitVec 32 := 32#32
  let v178 : BitVec 32 := Scalar.remsi v177 c32_i32_162
  let c1_i32_165 : BitVec 32 := 1#32
  let v180 : BitVec 32 := Scalar.muli v178 c1_i32_165
  let v181 : BitVec 32 := Scalar.addi c0_i32_166 v180
  v181.toNat
def k0_dev36 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_170 : BitVec 32 := 5#32
  let v189 : BitVec 32 := Scalar.addi v2 c5_i32_170
  let c32_i32_171 : BitVec 32 := 32#32
  let v190 : BitVec 32 := Scalar.remsi v189 c32_i32_171
  let c1_i32_174 : BitVec 32 := 1#32
  let v192 : BitVec 32 := Scalar.muli v190 c1_i32_174
  let v193 : BitVec 32 := Scalar.addi c0_i32_175 v192
  v193.toNat
def k0_dev37 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_179 : BitVec 32 := 6#32
  let v201 : BitVec 32 := Scalar.addi v2 c6_i32_179
  let c32_i32_180 : BitVec 32 := 32#32
  let v202 : BitVec 32 := Scalar.remsi v201 c32_i32_180
  let c1_i32_183 : BitVec 32 := 1#32
  let v204 : BitVec 32 := Scalar.muli v202 c1_i32_183
  let v205 : BitVec 32 := Scalar.addi c0_i32_184 v204
  v205.toNat
def k0_dev38 (d0 : Dev nD) : Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_188 : BitVec 32 := 7#32
  let v213 : BitVec 32 := Scalar.addi v2 c7_i32_188
  let c32_i32_189 : BitVec 32 := 32#32
  let v214 : BitVec 32 := Scalar.remsi v213 c32_i32_189
  let c1_i32_192 : BitVec 32 := 1#32
  let v216 : BitVec 32 := Scalar.muli v214 c1_i32_192
  let v217 : BitVec 32 := Scalar.addi c0_i32_193 v216
  v217.toNat
def k0_dev39 (d0 : Dev nD) : Nat :=
  let c0_i32_202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_197 : BitVec 32 := 8#32
  let v225 : BitVec 32 := Scalar.addi v2 c8_i32_197
  let c32_i32_198 : BitVec 32 := 32#32
  let v226 : BitVec 32 := Scalar.remsi v225 c32_i32_198
  let c1_i32_201 : BitVec 32 := 1#32
  let v228 : BitVec 32 := Scalar.muli v226 c1_i32_201
  let v229 : BitVec 32 := Scalar.addi c0_i32_202 v228
  v229.toNat
def k0_dev40 (d0 : Dev nD) : Nat :=
  let c0_i32_211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_206 : BitVec 32 := 9#32
  let v237 : BitVec 32 := Scalar.addi v2 c9_i32_206
  let c32_i32_207 : BitVec 32 := 32#32
  let v238 : BitVec 32 := Scalar.remsi v237 c32_i32_207
  let c1_i32_210 : BitVec 32 := 1#32
  let v240 : BitVec 32 := Scalar.muli v238 c1_i32_210
  let v241 : BitVec 32 := Scalar.addi c0_i32_211 v240
  v241.toNat
def k0_dev41 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_215 : BitVec 32 := 10#32
  let v249 : BitVec 32 := Scalar.addi v2 c10_i32_215
  let c32_i32_216 : BitVec 32 := 32#32
  let v250 : BitVec 32 := Scalar.remsi v249 c32_i32_216
  let c1_i32_219 : BitVec 32 := 1#32
  let v252 : BitVec 32 := Scalar.muli v250 c1_i32_219
  let v253 : BitVec 32 := Scalar.addi c0_i32_220 v252
  v253.toNat
def k0_dev42 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_224 : BitVec 32 := 11#32
  let v261 : BitVec 32 := Scalar.addi v2 c11_i32_224
  let c32_i32_225 : BitVec 32 := 32#32
  let v262 : BitVec 32 := Scalar.remsi v261 c32_i32_225
  let c1_i32_228 : BitVec 32 := 1#32
  let v264 : BitVec 32 := Scalar.muli v262 c1_i32_228
  let v265 : BitVec 32 := Scalar.addi c0_i32_229 v264
  v265.toNat
def k0_dev43 (d0 : Dev nD) : Nat :=
  let c0_i32_238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_233 : BitVec 32 := 12#32
  let v273 : BitVec 32 := Scalar.addi v2 c12_i32_233
  let c32_i32_234 : BitVec 32 := 32#32
  let v274 : BitVec 32 := Scalar.remsi v273 c32_i32_234
  let c1_i32_237 : BitVec 32 := 1#32
  let v276 : BitVec 32 := Scalar.muli v274 c1_i32_237
  let v277 : BitVec 32 := Scalar.addi c0_i32_238 v276
  v277.toNat
def k0_dev44 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_242 : BitVec 32 := 13#32
  let v285 : BitVec 32 := Scalar.addi v2 c13_i32_242
  let c32_i32_243 : BitVec 32 := 32#32
  let v286 : BitVec 32 := Scalar.remsi v285 c32_i32_243
  let c1_i32_246 : BitVec 32 := 1#32
  let v288 : BitVec 32 := Scalar.muli v286 c1_i32_246
  let v289 : BitVec 32 := Scalar.addi c0_i32_247 v288
  v289.toNat
def k0_dev45 (d0 : Dev nD) : Nat :=
  let c0_i32_256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_251 : BitVec 32 := 14#32
  let v297 : BitVec 32 := Scalar.addi v2 c14_i32_251
  let c32_i32_252 : BitVec 32 := 32#32
  let v298 : BitVec 32 := Scalar.remsi v297 c32_i32_252
  let c1_i32_255 : BitVec 32 := 1#32
  let v300 : BitVec 32 := Scalar.muli v298 c1_i32_255
  let v301 : BitVec 32 := Scalar.addi c0_i32_256 v300
  v301.toNat
def k0_dev46 (d0 : Dev nD) : Nat :=
  let c0_i32_265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_260 : BitVec 32 := 15#32
  let v309 : BitVec 32 := Scalar.addi v2 c15_i32_260
  let c32_i32_261 : BitVec 32 := 32#32
  let v310 : BitVec 32 := Scalar.remsi v309 c32_i32_261
  let c1_i32_264 : BitVec 32 := 1#32
  let v312 : BitVec 32 := Scalar.muli v310 c1_i32_264
  let v313 : BitVec 32 := Scalar.addi c0_i32_265 v312
  v313.toNat
def k0_dev47 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_269 : BitVec 32 := 16#32
  let v321 : BitVec 32 := Scalar.addi v2 c16_i32_269
  let c32_i32_270 : BitVec 32 := 32#32
  let v322 : BitVec 32 := Scalar.remsi v321 c32_i32_270
  let c1_i32_273 : BitVec 32 := 1#32
  let v324 : BitVec 32 := Scalar.muli v322 c1_i32_273
  let v325 : BitVec 32 := Scalar.addi c0_i32_274 v324
  v325.toNat
def k0_dev48 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_278 : BitVec 32 := 17#32
  let v333 : BitVec 32 := Scalar.addi v2 c17_i32_278
  let c32_i32_279 : BitVec 32 := 32#32
  let v334 : BitVec 32 := Scalar.remsi v333 c32_i32_279
  let c1_i32_282 : BitVec 32 := 1#32
  let v336 : BitVec 32 := Scalar.muli v334 c1_i32_282
  let v337 : BitVec 32 := Scalar.addi c0_i32_283 v336
  v337.toNat
def k0_dev49 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_287 : BitVec 32 := 18#32
  let v345 : BitVec 32 := Scalar.addi v2 c18_i32_287
  let c32_i32_288 : BitVec 32 := 32#32
  let v346 : BitVec 32 := Scalar.remsi v345 c32_i32_288
  let c1_i32_291 : BitVec 32 := 1#32
  let v348 : BitVec 32 := Scalar.muli v346 c1_i32_291
  let v349 : BitVec 32 := Scalar.addi c0_i32_292 v348
  v349.toNat
def k0_dev50 (d0 : Dev nD) : Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_296 : BitVec 32 := 19#32
  let v357 : BitVec 32 := Scalar.addi v2 c19_i32_296
  let c32_i32_297 : BitVec 32 := 32#32
  let v358 : BitVec 32 := Scalar.remsi v357 c32_i32_297
  let c1_i32_300 : BitVec 32 := 1#32
  let v360 : BitVec 32 := Scalar.muli v358 c1_i32_300
  let v361 : BitVec 32 := Scalar.addi c0_i32_301 v360
  v361.toNat
def k0_dev51 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_305 : BitVec 32 := 20#32
  let v369 : BitVec 32 := Scalar.addi v2 c20_i32_305
  let c32_i32_306 : BitVec 32 := 32#32
  let v370 : BitVec 32 := Scalar.remsi v369 c32_i32_306
  let c1_i32_309 : BitVec 32 := 1#32
  let v372 : BitVec 32 := Scalar.muli v370 c1_i32_309
  let v373 : BitVec 32 := Scalar.addi c0_i32_310 v372
  v373.toNat
def k0_dev52 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_314 : BitVec 32 := 21#32
  let v381 : BitVec 32 := Scalar.addi v2 c21_i32_314
  let c32_i32_315 : BitVec 32 := 32#32
  let v382 : BitVec 32 := Scalar.remsi v381 c32_i32_315
  let c1_i32_318 : BitVec 32 := 1#32
  let v384 : BitVec 32 := Scalar.muli v382 c1_i32_318
  let v385 : BitVec 32 := Scalar.addi c0_i32_319 v384
  v385.toNat
def k0_dev53 (d0 : Dev nD) : Nat :=
  let c0_i32_328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_323 : BitVec 32 := 22#32
  let v393 : BitVec 32 := Scalar.addi v2 c22_i32_323
  let c32_i32_324 : BitVec 32 := 32#32
  let v394 : BitVec 32 := Scalar.remsi v393 c32_i32_324
  let c1_i32_327 : BitVec 32 := 1#32
  let v396 : BitVec 32 := Scalar.muli v394 c1_i32_327
  let v397 : BitVec 32 := Scalar.addi c0_i32_328 v396
  v397.toNat
def k0_dev54 (d0 : Dev nD) : Nat :=
  let c0_i32_337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_332 : BitVec 32 := 23#32
  let v405 : BitVec 32 := Scalar.addi v2 c23_i32_332
  let c32_i32_333 : BitVec 32 := 32#32
  let v406 : BitVec 32 := Scalar.remsi v405 c32_i32_333
  let c1_i32_336 : BitVec 32 := 1#32
  let v408 : BitVec 32 := Scalar.muli v406 c1_i32_336
  let v409 : BitVec 32 := Scalar.addi c0_i32_337 v408
  v409.toNat
def k0_dev55 (d0 : Dev nD) : Nat :=
  let c0_i32_346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_341 : BitVec 32 := 24#32
  let v417 : BitVec 32 := Scalar.addi v2 c24_i32_341
  let c32_i32_342 : BitVec 32 := 32#32
  let v418 : BitVec 32 := Scalar.remsi v417 c32_i32_342
  let c1_i32_345 : BitVec 32 := 1#32
  let v420 : BitVec 32 := Scalar.muli v418 c1_i32_345
  let v421 : BitVec 32 := Scalar.addi c0_i32_346 v420
  v421.toNat
def k0_dev56 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_350 : BitVec 32 := 25#32
  let v429 : BitVec 32 := Scalar.addi v2 c25_i32_350
  let c32_i32_351 : BitVec 32 := 32#32
  let v430 : BitVec 32 := Scalar.remsi v429 c32_i32_351
  let c1_i32_354 : BitVec 32 := 1#32
  let v432 : BitVec 32 := Scalar.muli v430 c1_i32_354
  let v433 : BitVec 32 := Scalar.addi c0_i32_355 v432
  v433.toNat
def k0_dev57 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_359 : BitVec 32 := 26#32
  let v441 : BitVec 32 := Scalar.addi v2 c26_i32_359
  let c32_i32_360 : BitVec 32 := 32#32
  let v442 : BitVec 32 := Scalar.remsi v441 c32_i32_360
  let c1_i32_363 : BitVec 32 := 1#32
  let v444 : BitVec 32 := Scalar.muli v442 c1_i32_363
  let v445 : BitVec 32 := Scalar.addi c0_i32_364 v444
  v445.toNat
def k0_dev58 (d0 : Dev nD) : Nat :=
  let c0_i32_373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_368 : BitVec 32 := 27#32
  let v453 : BitVec 32 := Scalar.addi v2 c27_i32_368
  let c32_i32_369 : BitVec 32 := 32#32
  let v454 : BitVec 32 := Scalar.remsi v453 c32_i32_369
  let c1_i32_372 : BitVec 32 := 1#32
  let v456 : BitVec 32 := Scalar.muli v454 c1_i32_372
  let v457 : BitVec 32 := Scalar.addi c0_i32_373 v456
  v457.toNat
def k0_dev59 (d0 : Dev nD) : Nat :=
  let c0_i32_382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_377 : BitVec 32 := 28#32
  let v465 : BitVec 32 := Scalar.addi v2 c28_i32_377
  let c32_i32_378 : BitVec 32 := 32#32
  let v466 : BitVec 32 := Scalar.remsi v465 c32_i32_378
  let c1_i32_381 : BitVec 32 := 1#32
  let v468 : BitVec 32 := Scalar.muli v466 c1_i32_381
  let v469 : BitVec 32 := Scalar.addi c0_i32_382 v468
  v469.toNat
def k0_dev60 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_386 : BitVec 32 := 29#32
  let v477 : BitVec 32 := Scalar.addi v2 c29_i32_386
  let c32_i32_387 : BitVec 32 := 32#32
  let v478 : BitVec 32 := Scalar.remsi v477 c32_i32_387
  let c1_i32_390 : BitVec 32 := 1#32
  let v480 : BitVec 32 := Scalar.muli v478 c1_i32_390
  let v481 : BitVec 32 := Scalar.addi c0_i32_391 v480
  v481.toNat
def k0_dev61 (d0 : Dev nD) : Nat :=
  let c0_i32_400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_395 : BitVec 32 := 30#32
  let v489 : BitVec 32 := Scalar.addi v2 c30_i32_395
  let c32_i32_396 : BitVec 32 := 32#32
  let v490 : BitVec 32 := Scalar.remsi v489 c32_i32_396
  let c1_i32_399 : BitVec 32 := 1#32
  let v492 : BitVec 32 := Scalar.muli v490 c1_i32_399
  let v493 : BitVec 32 := Scalar.addi c0_i32_400 v492
  v493.toNat
def k0_dev62 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_404 : BitVec 32 := 31#32
  let v501 : BitVec 32 := Scalar.addi v2 c31_i32_404
  let c32_i32_405 : BitVec 32 := 32#32
  let v502 : BitVec 32 := Scalar.remsi v501 c32_i32_405
  let c1_i32_408 : BitVec 32 := 1#32
  let v504 : BitVec 32 := Scalar.muli v502 c1_i32_408
  let v505 : BitVec 32 := Scalar.addi c0_i32_409 v504
  v505.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_413 : BitVec 32 := 16#32
  let v513 : BitVec 32 := Scalar.muli v2 c16_i32_413
  let v514 : Index := Scalar.indexCast v513
  let c0_414 : Index := 0#32
  ![v514.toNat, 0]
def k0_off5 (d0 : Dev nD) (c1_i32_415 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v516 : BitVec 32 := Scalar.addi v2 c1_i32_415
  let c32_i32_416 : BitVec 32 := 32#32
  let v517 : BitVec 32 := Scalar.remsi v516 c32_i32_416
  ![v517.toNat]
def k0_off6 (d0 : Dev nD) (c1_i32_415 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v516 : BitVec 32 := Scalar.addi v2 c1_i32_415
  let c32_i32_416 : BitVec 32 := 32#32
  let v517 : BitVec 32 := Scalar.remsi v516 c32_i32_416
  let c0_i32_420 : BitVec 32 := 0#32
  let c0_i32_421 : BitVec 32 := 0#32
  ![v517.toNat, 0, 0]
def k0_off7 (d0 : Dev nD) (c1_i32_415 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v516 : BitVec 32 := Scalar.addi v2 c1_i32_415
  let c32_i32_416 : BitVec 32 := 32#32
  let v517 : BitVec 32 := Scalar.remsi v516 c32_i32_416
  let v525 : Index := Scalar.indexCast v517
  let c0_424 : Index := 0#32
  let c0_425 : Index := 0#32
  ![v525.toNat, 0, 0]
def k0_dev63 (d0 : Dev nD) : Nat :=
  let c0_i32_762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_758 : BitVec 32 := 1#32
  let v954 : BitVec 32 := Scalar.addi v2 c1_i32_758
  let c32_i32_759 : BitVec 32 := 32#32
  let v955 : BitVec 32 := Scalar.remsi v954 c32_i32_759
  let c1_i32_761 : BitVec 32 := 1#32
  let v956 : BitVec 32 := Scalar.muli v955 c1_i32_761
  let v957 : BitVec 32 := Scalar.addi c0_i32_762 v956
  v957.toNat
def k0_dev64 (d0 : Dev nD) : Nat :=
  let c0_i32_769 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_765 : BitVec 32 := 2#32
  let v964 : BitVec 32 := Scalar.addi v2 c2_i32_765
  let c32_i32_766 : BitVec 32 := 32#32
  let v965 : BitVec 32 := Scalar.remsi v964 c32_i32_766
  let c1_i32_768 : BitVec 32 := 1#32
  let v966 : BitVec 32 := Scalar.muli v965 c1_i32_768
  let v967 : BitVec 32 := Scalar.addi c0_i32_769 v966
  v967.toNat
def k0_dev65 (d0 : Dev nD) : Nat :=
  let c0_i32_776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v974 : BitVec 32 := Scalar.addi v2 c3_i32_772
  let c32_i32_773 : BitVec 32 := 32#32
  let v975 : BitVec 32 := Scalar.remsi v974 c32_i32_773
  let c1_i32_775 : BitVec 32 := 1#32
  let v976 : BitVec 32 := Scalar.muli v975 c1_i32_775
  let v977 : BitVec 32 := Scalar.addi c0_i32_776 v976
  v977.toNat
def k0_dev66 (d0 : Dev nD) : Nat :=
  let c0_i32_783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_779 : BitVec 32 := 4#32
  let v984 : BitVec 32 := Scalar.addi v2 c4_i32_779
  let c32_i32_780 : BitVec 32 := 32#32
  let v985 : BitVec 32 := Scalar.remsi v984 c32_i32_780
  let c1_i32_782 : BitVec 32 := 1#32
  let v986 : BitVec 32 := Scalar.muli v985 c1_i32_782
  let v987 : BitVec 32 := Scalar.addi c0_i32_783 v986
  v987.toNat
def k0_dev67 (d0 : Dev nD) : Nat :=
  let c0_i32_790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_786 : BitVec 32 := 5#32
  let v994 : BitVec 32 := Scalar.addi v2 c5_i32_786
  let c32_i32_787 : BitVec 32 := 32#32
  let v995 : BitVec 32 := Scalar.remsi v994 c32_i32_787
  let c1_i32_789 : BitVec 32 := 1#32
  let v996 : BitVec 32 := Scalar.muli v995 c1_i32_789
  let v997 : BitVec 32 := Scalar.addi c0_i32_790 v996
  v997.toNat
def k0_dev68 (d0 : Dev nD) : Nat :=
  let c0_i32_797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_793 : BitVec 32 := 6#32
  let v1004 : BitVec 32 := Scalar.addi v2 c6_i32_793
  let c32_i32_794 : BitVec 32 := 32#32
  let v1005 : BitVec 32 := Scalar.remsi v1004 c32_i32_794
  let c1_i32_796 : BitVec 32 := 1#32
  let v1006 : BitVec 32 := Scalar.muli v1005 c1_i32_796
  let v1007 : BitVec 32 := Scalar.addi c0_i32_797 v1006
  v1007.toNat
def k0_dev69 (d0 : Dev nD) : Nat :=
  let c0_i32_804 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_800 : BitVec 32 := 7#32
  let v1014 : BitVec 32 := Scalar.addi v2 c7_i32_800
  let c32_i32_801 : BitVec 32 := 32#32
  let v1015 : BitVec 32 := Scalar.remsi v1014 c32_i32_801
  let c1_i32_803 : BitVec 32 := 1#32
  let v1016 : BitVec 32 := Scalar.muli v1015 c1_i32_803
  let v1017 : BitVec 32 := Scalar.addi c0_i32_804 v1016
  v1017.toNat
def k0_dev70 (d0 : Dev nD) : Nat :=
  let c0_i32_811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_807 : BitVec 32 := 8#32
  let v1024 : BitVec 32 := Scalar.addi v2 c8_i32_807
  let c32_i32_808 : BitVec 32 := 32#32
  let v1025 : BitVec 32 := Scalar.remsi v1024 c32_i32_808
  let c1_i32_810 : BitVec 32 := 1#32
  let v1026 : BitVec 32 := Scalar.muli v1025 c1_i32_810
  let v1027 : BitVec 32 := Scalar.addi c0_i32_811 v1026
  v1027.toNat
def k0_dev71 (d0 : Dev nD) : Nat :=
  let c0_i32_818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_814 : BitVec 32 := 9#32
  let v1034 : BitVec 32 := Scalar.addi v2 c9_i32_814
  let c32_i32_815 : BitVec 32 := 32#32
  let v1035 : BitVec 32 := Scalar.remsi v1034 c32_i32_815
  let c1_i32_817 : BitVec 32 := 1#32
  let v1036 : BitVec 32 := Scalar.muli v1035 c1_i32_817
  let v1037 : BitVec 32 := Scalar.addi c0_i32_818 v1036
  v1037.toNat
def k0_dev72 (d0 : Dev nD) : Nat :=
  let c0_i32_825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_821 : BitVec 32 := 10#32
  let v1044 : BitVec 32 := Scalar.addi v2 c10_i32_821
  let c32_i32_822 : BitVec 32 := 32#32
  let v1045 : BitVec 32 := Scalar.remsi v1044 c32_i32_822
  let c1_i32_824 : BitVec 32 := 1#32
  let v1046 : BitVec 32 := Scalar.muli v1045 c1_i32_824
  let v1047 : BitVec 32 := Scalar.addi c0_i32_825 v1046
  v1047.toNat
def k0_dev73 (d0 : Dev nD) : Nat :=
  let c0_i32_832 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_828 : BitVec 32 := 11#32
  let v1054 : BitVec 32 := Scalar.addi v2 c11_i32_828
  let c32_i32_829 : BitVec 32 := 32#32
  let v1055 : BitVec 32 := Scalar.remsi v1054 c32_i32_829
  let c1_i32_831 : BitVec 32 := 1#32
  let v1056 : BitVec 32 := Scalar.muli v1055 c1_i32_831
  let v1057 : BitVec 32 := Scalar.addi c0_i32_832 v1056
  v1057.toNat
def k0_dev74 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_835 : BitVec 32 := 12#32
  let v1064 : BitVec 32 := Scalar.addi v2 c12_i32_835
  let c32_i32_836 : BitVec 32 := 32#32
  let v1065 : BitVec 32 := Scalar.remsi v1064 c32_i32_836
  let c1_i32_838 : BitVec 32 := 1#32
  let v1066 : BitVec 32 := Scalar.muli v1065 c1_i32_838
  let v1067 : BitVec 32 := Scalar.addi c0_i32_839 v1066
  v1067.toNat
def k0_dev75 (d0 : Dev nD) : Nat :=
  let c0_i32_846 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_842 : BitVec 32 := 13#32
  let v1074 : BitVec 32 := Scalar.addi v2 c13_i32_842
  let c32_i32_843 : BitVec 32 := 32#32
  let v1075 : BitVec 32 := Scalar.remsi v1074 c32_i32_843
  let c1_i32_845 : BitVec 32 := 1#32
  let v1076 : BitVec 32 := Scalar.muli v1075 c1_i32_845
  let v1077 : BitVec 32 := Scalar.addi c0_i32_846 v1076
  v1077.toNat
def k0_dev76 (d0 : Dev nD) : Nat :=
  let c0_i32_853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_849 : BitVec 32 := 14#32
  let v1084 : BitVec 32 := Scalar.addi v2 c14_i32_849
  let c32_i32_850 : BitVec 32 := 32#32
  let v1085 : BitVec 32 := Scalar.remsi v1084 c32_i32_850
  let c1_i32_852 : BitVec 32 := 1#32
  let v1086 : BitVec 32 := Scalar.muli v1085 c1_i32_852
  let v1087 : BitVec 32 := Scalar.addi c0_i32_853 v1086
  v1087.toNat
def k0_dev77 (d0 : Dev nD) : Nat :=
  let c0_i32_860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_856 : BitVec 32 := 15#32
  let v1094 : BitVec 32 := Scalar.addi v2 c15_i32_856
  let c32_i32_857 : BitVec 32 := 32#32
  let v1095 : BitVec 32 := Scalar.remsi v1094 c32_i32_857
  let c1_i32_859 : BitVec 32 := 1#32
  let v1096 : BitVec 32 := Scalar.muli v1095 c1_i32_859
  let v1097 : BitVec 32 := Scalar.addi c0_i32_860 v1096
  v1097.toNat
def k0_dev78 (d0 : Dev nD) : Nat :=
  let c0_i32_867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_863 : BitVec 32 := 16#32
  let v1104 : BitVec 32 := Scalar.addi v2 c16_i32_863
  let c32_i32_864 : BitVec 32 := 32#32
  let v1105 : BitVec 32 := Scalar.remsi v1104 c32_i32_864
  let c1_i32_866 : BitVec 32 := 1#32
  let v1106 : BitVec 32 := Scalar.muli v1105 c1_i32_866
  let v1107 : BitVec 32 := Scalar.addi c0_i32_867 v1106
  v1107.toNat
def k0_dev79 (d0 : Dev nD) : Nat :=
  let c0_i32_874 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_870 : BitVec 32 := 17#32
  let v1114 : BitVec 32 := Scalar.addi v2 c17_i32_870
  let c32_i32_871 : BitVec 32 := 32#32
  let v1115 : BitVec 32 := Scalar.remsi v1114 c32_i32_871
  let c1_i32_873 : BitVec 32 := 1#32
  let v1116 : BitVec 32 := Scalar.muli v1115 c1_i32_873
  let v1117 : BitVec 32 := Scalar.addi c0_i32_874 v1116
  v1117.toNat
def k0_dev80 (d0 : Dev nD) : Nat :=
  let c0_i32_881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_877 : BitVec 32 := 18#32
  let v1124 : BitVec 32 := Scalar.addi v2 c18_i32_877
  let c32_i32_878 : BitVec 32 := 32#32
  let v1125 : BitVec 32 := Scalar.remsi v1124 c32_i32_878
  let c1_i32_880 : BitVec 32 := 1#32
  let v1126 : BitVec 32 := Scalar.muli v1125 c1_i32_880
  let v1127 : BitVec 32 := Scalar.addi c0_i32_881 v1126
  v1127.toNat
def k0_dev81 (d0 : Dev nD) : Nat :=
  let c0_i32_888 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_884 : BitVec 32 := 19#32
  let v1134 : BitVec 32 := Scalar.addi v2 c19_i32_884
  let c32_i32_885 : BitVec 32 := 32#32
  let v1135 : BitVec 32 := Scalar.remsi v1134 c32_i32_885
  let c1_i32_887 : BitVec 32 := 1#32
  let v1136 : BitVec 32 := Scalar.muli v1135 c1_i32_887
  let v1137 : BitVec 32 := Scalar.addi c0_i32_888 v1136
  v1137.toNat
def k0_dev82 (d0 : Dev nD) : Nat :=
  let c0_i32_895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_891 : BitVec 32 := 20#32
  let v1144 : BitVec 32 := Scalar.addi v2 c20_i32_891
  let c32_i32_892 : BitVec 32 := 32#32
  let v1145 : BitVec 32 := Scalar.remsi v1144 c32_i32_892
  let c1_i32_894 : BitVec 32 := 1#32
  let v1146 : BitVec 32 := Scalar.muli v1145 c1_i32_894
  let v1147 : BitVec 32 := Scalar.addi c0_i32_895 v1146
  v1147.toNat
def k0_dev83 (d0 : Dev nD) : Nat :=
  let c0_i32_902 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_898 : BitVec 32 := 21#32
  let v1154 : BitVec 32 := Scalar.addi v2 c21_i32_898
  let c32_i32_899 : BitVec 32 := 32#32
  let v1155 : BitVec 32 := Scalar.remsi v1154 c32_i32_899
  let c1_i32_901 : BitVec 32 := 1#32
  let v1156 : BitVec 32 := Scalar.muli v1155 c1_i32_901
  let v1157 : BitVec 32 := Scalar.addi c0_i32_902 v1156
  v1157.toNat
def k0_dev84 (d0 : Dev nD) : Nat :=
  let c0_i32_909 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_905 : BitVec 32 := 22#32
  let v1164 : BitVec 32 := Scalar.addi v2 c22_i32_905
  let c32_i32_906 : BitVec 32 := 32#32
  let v1165 : BitVec 32 := Scalar.remsi v1164 c32_i32_906
  let c1_i32_908 : BitVec 32 := 1#32
  let v1166 : BitVec 32 := Scalar.muli v1165 c1_i32_908
  let v1167 : BitVec 32 := Scalar.addi c0_i32_909 v1166
  v1167.toNat
def k0_dev85 (d0 : Dev nD) : Nat :=
  let c0_i32_916 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_912 : BitVec 32 := 23#32
  let v1174 : BitVec 32 := Scalar.addi v2 c23_i32_912
  let c32_i32_913 : BitVec 32 := 32#32
  let v1175 : BitVec 32 := Scalar.remsi v1174 c32_i32_913
  let c1_i32_915 : BitVec 32 := 1#32
  let v1176 : BitVec 32 := Scalar.muli v1175 c1_i32_915
  let v1177 : BitVec 32 := Scalar.addi c0_i32_916 v1176
  v1177.toNat
def k0_dev86 (d0 : Dev nD) : Nat :=
  let c0_i32_923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_919 : BitVec 32 := 24#32
  let v1184 : BitVec 32 := Scalar.addi v2 c24_i32_919
  let c32_i32_920 : BitVec 32 := 32#32
  let v1185 : BitVec 32 := Scalar.remsi v1184 c32_i32_920
  let c1_i32_922 : BitVec 32 := 1#32
  let v1186 : BitVec 32 := Scalar.muli v1185 c1_i32_922
  let v1187 : BitVec 32 := Scalar.addi c0_i32_923 v1186
  v1187.toNat
def k0_dev87 (d0 : Dev nD) : Nat :=
  let c0_i32_930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_926 : BitVec 32 := 25#32
  let v1194 : BitVec 32 := Scalar.addi v2 c25_i32_926
  let c32_i32_927 : BitVec 32 := 32#32
  let v1195 : BitVec 32 := Scalar.remsi v1194 c32_i32_927
  let c1_i32_929 : BitVec 32 := 1#32
  let v1196 : BitVec 32 := Scalar.muli v1195 c1_i32_929
  let v1197 : BitVec 32 := Scalar.addi c0_i32_930 v1196
  v1197.toNat
def k0_dev88 (d0 : Dev nD) : Nat :=
  let c0_i32_937 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_933 : BitVec 32 := 26#32
  let v1204 : BitVec 32 := Scalar.addi v2 c26_i32_933
  let c32_i32_934 : BitVec 32 := 32#32
  let v1205 : BitVec 32 := Scalar.remsi v1204 c32_i32_934
  let c1_i32_936 : BitVec 32 := 1#32
  let v1206 : BitVec 32 := Scalar.muli v1205 c1_i32_936
  let v1207 : BitVec 32 := Scalar.addi c0_i32_937 v1206
  v1207.toNat
def k0_dev89 (d0 : Dev nD) : Nat :=
  let c0_i32_944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_940 : BitVec 32 := 27#32
  let v1214 : BitVec 32 := Scalar.addi v2 c27_i32_940
  let c32_i32_941 : BitVec 32 := 32#32
  let v1215 : BitVec 32 := Scalar.remsi v1214 c32_i32_941
  let c1_i32_943 : BitVec 32 := 1#32
  let v1216 : BitVec 32 := Scalar.muli v1215 c1_i32_943
  let v1217 : BitVec 32 := Scalar.addi c0_i32_944 v1216
  v1217.toNat
def k0_dev90 (d0 : Dev nD) : Nat :=
  let c0_i32_951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_947 : BitVec 32 := 28#32
  let v1224 : BitVec 32 := Scalar.addi v2 c28_i32_947
  let c32_i32_948 : BitVec 32 := 32#32
  let v1225 : BitVec 32 := Scalar.remsi v1224 c32_i32_948
  let c1_i32_950 : BitVec 32 := 1#32
  let v1226 : BitVec 32 := Scalar.muli v1225 c1_i32_950
  let v1227 : BitVec 32 := Scalar.addi c0_i32_951 v1226
  v1227.toNat
def k0_dev91 (d0 : Dev nD) : Nat :=
  let c0_i32_958 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_954 : BitVec 32 := 29#32
  let v1234 : BitVec 32 := Scalar.addi v2 c29_i32_954
  let c32_i32_955 : BitVec 32 := 32#32
  let v1235 : BitVec 32 := Scalar.remsi v1234 c32_i32_955
  let c1_i32_957 : BitVec 32 := 1#32
  let v1236 : BitVec 32 := Scalar.muli v1235 c1_i32_957
  let v1237 : BitVec 32 := Scalar.addi c0_i32_958 v1236
  v1237.toNat
def k0_dev92 (d0 : Dev nD) : Nat :=
  let c0_i32_965 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_961 : BitVec 32 := 30#32
  let v1244 : BitVec 32 := Scalar.addi v2 c30_i32_961
  let c32_i32_962 : BitVec 32 := 32#32
  let v1245 : BitVec 32 := Scalar.remsi v1244 c32_i32_962
  let c1_i32_964 : BitVec 32 := 1#32
  let v1246 : BitVec 32 := Scalar.muli v1245 c1_i32_964
  let v1247 : BitVec 32 := Scalar.addi c0_i32_965 v1246
  v1247.toNat
def k0_dev93 (d0 : Dev nD) : Nat :=
  let c0_i32_972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_968 : BitVec 32 := 31#32
  let v1254 : BitVec 32 := Scalar.addi v2 c31_i32_968
  let c32_i32_969 : BitVec 32 := 32#32
  let v1255 : BitVec 32 := Scalar.remsi v1254 c32_i32_969
  let c1_i32_971 : BitVec 32 := 1#32
  let v1256 : BitVec 32 := Scalar.muli v1255 c1_i32_971
  let v1257 : BitVec 32 := Scalar.addi c0_i32_972 v1256
  v1257.toNat
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1265 : Index := Scalar.indexCast v2
  let c0_977 : Index := 0#32
  let c0_978 : Index := 0#32
  ![v1265.toNat, 0, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x8192 : Shape := ⟨2, ![512, 8192]⟩
abbrev S8192x512 : Shape := ⟨2, ![8192, 512]⟩
abbrev S512x512 : Shape := ⟨2, ![512, 512]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S512x8192, .bf16⟩
  | .hbm, ⟨1, _⟩ => ⟨S8192x512, .bf16⟩
  | .hbm, ⟨2, _⟩ => ⟨S512x512, .f32⟩
  | .hbm, ⟨3, _⟩ => ⟨S512x512, .bf16⟩
  | .hbm, ⟨4, _⟩ => ⟨S512x512, .bf16⟩
  | .hbm, ⟨5, _⟩ => ⟨S512x512, .bf16⟩
  | .hbm, ⟨6, _⟩ => ⟨S_, .bf16⟩
  | .hbm, ⟨7, _⟩ => ⟨S512x512, .bf16⟩
  | .hbm, ⟨8, _⟩ => ⟨S512x512, .bf16⟩
  | .hbm, ⟨9, _⟩ => ⟨S512x512, .bf16⟩
  | .hbm, ⟨10, _⟩ => ⟨S512x512, .f32⟩
  | _, _ => ⟨S512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Proto.lean ====
/-
The protocol of the kernel: who names which memory, which semaphore cell, what is handed over at each of them.

Device `c` talks to the 31 others in the order of the offsets 1, …, 31: its peer at step `r` (from 0) is `pr c r`, the
device `r + 1` places up. Every cell is used for one round. A device's barrier cell collects 31 units, each handing over
the two landing places the signaller keeps for this device; a reduce-scatter transfer hands its landing place to the
target with the sender's rounded rows in it and, when it has left, the rows back to the sender; an all-gather transfer
likewise, its source being lent by shares since 31 transfers read it at once.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.Writes
public import Idealize.ShloMosaic.Lib.Tactic
public import Idealize.SL.BI.BigOpNat

@[expose] public section

noncomputable section

namespace Cert.RunProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Peers -/

/-- The device `r + 1` places up from `c`. -/
def pr (c : Dev nD) (r : ℕ) : Dev nD := ⟨(c.val + r + 1) % 32, Nat.mod_lt _ (by decide)⟩

theorem pr_val (c : Dev nD) (r : ℕ) : (pr c r).val = (c.val + r + 1) % 32 := rfl

theorem pr_back {c : Dev nD} {r : ℕ} (h : r < 31) : pr (pr c r) (30 - r) = c := by
  have := c.isLt
  refine Fin.ext ?_
  rw [pr_val, pr_val]; simp only [nD] at this; omega

theorem pr_ne {c : Dev nD} {r : ℕ} (h : r < 31) : pr c r ≠ c := by
  intro e
  have := congrArg Fin.val e
  have h' := c.isLt; simp only [nD] at h'
  rw [pr_val] at this; omega

theorem pr_inj {c : Dev nD} {r r' : ℕ} (h : r < 31) (h' : r' < 31) (e : pr c r = pr c r') : r = r' := by
  have := congrArg Fin.val e
  have h' := c.isLt; simp only [nD] at h'
  rw [pr_val, pr_val] at this; omega

theorem exists_pr {c p : Dev nD} (h : p ≠ c) : ∃ r, r < 31 ∧ p = pr c r := by
  have h1 := c.isLt; have h2 := p.isLt; simp only [nD] at h1 h2
  have h3 : p.val ≠ c.val := fun e => h (Fin.ext e)
  refine ⟨(p.val + 31 - c.val) % 32, by omega, Fin.ext ?_⟩
  rw [pr_val]; omega

/-- Every device is `c` or one of its 31 peers. -/
theorem univ_peers (c : Dev nD) : (Finset.univ : Finset (Dev nD)) = insert c ((Finset.Ico 0 31).image (pr c)) := by
  ext p
  simp only [Finset.mem_univ, Finset.mem_insert, Finset.mem_image, Finset.mem_Ico, true_iff]
  by_cases h : p = c
  · exact .inl h
  · obtain ⟨r, hr, e⟩ := exists_pr h; exact .inr ⟨r, ⟨Nat.zero_le _, hr⟩, e.symm⟩

section Big
variable {M : Type} [URA M]

theorem big_image {I J : Type} [DecidableEq I] [DecidableEq J] (f : I → J) (s : Finset I) (h : Set.InjOn f s) (Φ : J → sProp M) :
    bigSep (s.image f) Φ = bigSep s fun i => Φ (f i) := by
  induction s using Finset.induction_on with
  | empty => rw [Finset.image_empty, bigSep_empty, bigSep_empty]
  | insert a s ha ih =>
    have hna : f a ∉ s.image f := fun hm => by
      obtain ⟨b, hb, e⟩ := Finset.mem_image.mp hm
      exact ha (h (Finset.mem_insert_of_mem hb) (Finset.mem_insert_self _ _) e ▸ hb)
    rw [Finset.image_insert, bigSep_insert hna, bigSep_insert ha,
      ih fun x hx y hy e => h (Finset.mem_insert_of_mem hx) (Finset.mem_insert_of_mem hy) e]

/-- A family over the devices: `c`'s member and its peers' in order. -/
theorem big_peers (c : Dev nD) (Φ : Dev nD → sProp M) :
    bigSep Finset.univ Φ = iprop(Φ c ∗ bigSep (Finset.Ico 0 31) fun r => Φ (pr c r)) := by
  rw [univ_peers c, bigSep_insert, big_image]
  · rfl
  · intro x hx y hy e
    exact pr_inj (Finset.mem_Ico.mp (Finset.mem_coe.mp hx)).2 (Finset.mem_Ico.mp (Finset.mem_coe.mp hy)).2 e
  · intro hm
    obtain ⟨r, hr, e⟩ := Finset.mem_image.mp hm
    exact pr_ne (Finset.mem_Ico.mp hr).2 e

theorem big_bot {n : ℕ} (h : n < 31) (Φ : ℕ → sProp M) :
    bigSep (Finset.Ico n 31) Φ = iprop(Φ n ∗ bigSep (Finset.Ico (n + 1) 31) Φ) := bigSep_Ico_succ_bot h Φ

theorem big_top (n : ℕ) (Φ : ℕ → sProp M) :
    bigSep (Finset.Ico 0 (n + 1)) Φ = iprop(Φ n ∗ bigSep (Finset.Ico 0 n) Φ) := bigSep_Ico_succ_top (Nat.zero_le n) Φ

end Big

/-! ## Memory -/

abbrev xM : Memref sig .tc .vmem S512x256 .bf16 := Memref.whole cc0_stg0_0
abbrev yM : Memref sig .tc .vmem S256x512 .bf16 := Memref.whole cc0_stg1_0
abbrev oM : Memref sig .tc .vmem S512x512 .f32 := Memref.whole cc0_stg2_0
abbrev partM : Memref sig .tc .vmem S512x512 .f32 := Memref.whole cc0_scratch0
abbrev pbfM : Memref sig .tc .vmem S512x512 .bf16 := Memref.whole cc0_scratch1
abbrev rsM : Memref sig .tc .vmem S32x16x512 .bf16 := Memref.whole cc0_scratch2
abbrev redM : Memref sig .tc .vmem S16x512 .bf16 := Memref.whole cc0_scratch3
abbrev agM : Memref sig .tc .vmem S32x16x512 .bf16 := Memref.whole cc0_scratch4

/-- Slot `s` of a landing buffer, rows of device `b` of a 512-row buffer. -/
theorem slot_inb (s : Fin 32) : ∀ a, (![s.val, 0, 0] : Fin 3 → ℕ) a + S1x16x512.size a ≤ S32x16x512.size a := by
  have := s.isLt
  intro a; fin_cases a
  · show s.val + 1 ≤ 32; omega
  · show 0 + 16 ≤ 16; omega
  · show 0 + 512 ≤ 512; omega
theorem rows_inb (b : Fin 32) : ∀ a, (![16 * b.val, 0] : Fin 2 → ℕ) a + S16x512.size a ≤ S512x512.size a := by
  have := b.isLt
  intro a; fin_cases a
  · show 16 * b.val + 16 ≤ 512; omega
  · show 0 + 512 ≤ 512; omega
abbrev slotR (s : Fin 32) : Rect S32x16x512 := Rect.unit (s := S32x16x512) ![s.val, 0, 0] S1x16x512.size (slot_inb s)
abbrev rowsR (b : Fin 32) : Rect S512x512 := Rect.unit (s := S512x512) ![16 * b.val, 0] S16x512.size (rows_inb b)

abbrev rsS (s : Fin 32) : Memref sig .tc .vmem S16x512 .bf16 := (rsM.slice (slotR s) (fun _ => rfl)).squeeze S16x512 squeezes_S1x16x512_S16x512
abbrev agS (s : Fin 32) : Memref sig .tc .vmem S16x512 .bf16 := (agM.slice (slotR s) (fun _ => rfl)).squeeze S16x512 squeezes_S1x16x512_S16x512
abbrev pbfR (b : Fin 32) : Memref sig .tc .vmem S16x512 .bf16 := pbfM.slice (rowsR b) (fun _ => rfl)

theorem rsS_set (s : Fin 32) : (rsS s).view.set = (slotR s).set := by
  show ((((View.whole cc0_scratch2).slice (slotR s)).reshape S16x512 _).set) = _
  rw [View.set_reshape]; exact View.set_slice_whole _ _
theorem agS_set (s : Fin 32) : (agS s).view.set = (slotR s).set := by
  show ((((View.whole cc0_scratch4).slice (slotR s)).reshape S16x512 _).set) = _
  rw [View.set_reshape]; exact View.set_slice_whole _ _
theorem pbfR_set (b : Fin 32) : (pbfR b).view.set = (rowsR b).set := View.set_slice_whole _ _

theorem slot_disj (s s' : Fin 32) (h : s ≠ s') : Disjoint (slotR s).set (slotR s').set :=
  Idealize.ShloMosaic.Ring.lead_disjoint (s := S32x16x512) (NB := 32) 0 1 (fun s => ![s.val, 0, 0]) S1x16x512.size slot_inb
    (fun b => (Nat.one_mul _).symm) rfl s s' h
theorem slot_cover : Finset.univ.biUnion (fun s : Fin 32 => (slotR s).set) = Finset.univ :=
  Idealize.ShloMosaic.Ring.lead_cover (s := S32x16x512) (NB := 32) 0 1 (fun s => ![s.val, 0, 0]) S1x16x512.size slot_inb
    (fun b => (Nat.one_mul _).symm) (fun b a h => by fin_cases a; · exact absurd rfl h
                                                     · rfl
                                                     · rfl) rfl
    (fun a h => by fin_cases a; · exact absurd rfl h
                   · rfl
                   · rfl) rfl
theorem rows_disj (s s' : Fin 32) (h : s ≠ s') : Disjoint (rowsR s).set (rowsR s').set :=
  Idealize.ShloMosaic.Ring.lead_disjoint (s := S512x512) (NB := 32) 0 16 (fun b => ![16 * b.val, 0]) S16x512.size rows_inb
    (fun b => rfl) rfl s s' h
theorem rows_cover : Finset.univ.biUnion (fun s : Fin 32 => (rowsR s).set) = Finset.univ :=
  Idealize.ShloMosaic.Ring.lead_cover (s := S512x512) (NB := 32) 0 16 (fun b => ![16 * b.val, 0]) S16x512.size rows_inb
    (fun b => rfl) (fun b a h => by fin_cases a; · exact absurd rfl h
                                    · rfl) rfl
    (fun a h => by fin_cases a; · exact absurd rfl h
                   · rfl) rfl

/-! ## Semaphores -/

abbrev barS : Sem sig := (SemArray.scalar (sig.barrier 0 rfl) : Sems sig S_).sem

/-- Semaphore `i` of array `k`: 0 reduce-scatter send, 1 its receive, 2 all-gather send, 3 its receive. -/
def sem4 (k : Fin 4) (i : Fin 32) : DmaSem sig := ⟨3 + 32 * k.val + i.val, by
  have := k.isLt; have := i.isLt; show 3 + 32 * k.val + i.val < 131; omega⟩

theorem sem4_val (k : Fin 4) (i : Fin 32) : (sem4 k i).val = 3 + 32 * k.val + i.val := rfl

abbrev CI : Type := Option (Fin 4 × Fin 32)
abbrev osem (i : Fin 4 × Fin 32) : SemLoc sig := .dma (sem4 i.1 i.2)
abbrev csem : CI → SemLoc sig
  | none => .reg barS
  | some i => osem i
abbrev gc (c : Dev nD) (i : CI) : GSem nD τ sig := ((c : Thread nD τ), csem i)

/-- Index of step `r` in the arrays indexed by offset. -/
def fi (r : ℕ) : Fin 32 := ⟨(r + 1) % 32, Nat.mod_lt _ (by decide)⟩

abbrev bC (c : Dev nD) : GSem nD τ sig := gc c none
abbrev sC (c : Dev nD) (r : ℕ) : GSem nD τ sig := gc c (some (0, fi r))
abbrev vC (c s : Dev nD) : GSem nD τ sig := gc c (some (1, s))
abbrev asC (c : Dev nD) (r : ℕ) : GSem nD τ sig := gc c (some (2, fi r))
abbrev avC (c s : Dev nD) : GSem nD τ sig := gc c (some (3, s))

theorem sem4_inj {k k' : Fin 4} {i i' : Fin 32} (h : sem4 k i = sem4 k' i') : k = k' ∧ i = i' := by
  have h := congrArg Fin.val h
  rw [sem4_val, sem4_val] at h
  have := i.isLt; have := i'.isLt
  exact ⟨Fin.ext (by omega), Fin.ext (by omega)⟩

theorem osem_inj : Function.Injective osem := fun a b h => by
  have h : sem4 a.1 a.2 = sem4 b.1 b.2 := SemLoc.dma.inj h
  exact Prod.ext (sem4_inj h).1 (sem4_inj h).2

theorem csem_inj : Function.Injective csem := fun a b h => by
  cases a <;> cases b
  · rfl
  · cases h
  · cases h
  · exact congrArg some (osem_inj h)

abbrev kcell (x : Dev nD × CI) : GSem nD τ sig := gc x.1 x.2
theorem kcell_inj : Function.Injective kcell := fun a b h =>
  Prod.ext (congrArg (fun g : GSem nD τ sig => g.1.1) h) (csem_inj (congrArg Prod.snd h))

abbrev N : ℕ := (redM : Memref sig .tc .vmem S16x512 .bf16).view.dmaCredit
theorem N_pos : 0 < N := View.dmaCredit_pos _ (by decide)

/-! ## Contents -/

/-- What device `c`'s input windows hold. -/
def astg (c : Dev nD) : (cc0_stg0_0 : Ref sig .tc).ty.Contents (Elt F) :=
  (win0_0.blk (0 : Fin 1)).view.read (Elt F) ((s₀ m ρ).mem ((c : Thread nD τ).loc main_arg0))
def bstg (c : Dev nD) : (cc0_stg1_0 : Ref sig .tc).ty.Contents (Elt F) :=
  (win0_1.blk (0 : Fin 1)).view.read (Elt F) ((s₀ m ρ).mem ((c : Thread nD τ).loc main_arg1))

/-- Its partial product, and that rounded. -/
def PT (c : Dev nD) : (cc0_scratch0 : Ref sig .tc).ty.Contents (Elt F) := k0_pay1 (astg m ρ c) (bstg m ρ c)
def PB (c : Dev nD) : (cc0_scratch1 : Ref sig .tc).ty.Contents (Elt F) := k0_pay2 (PT m ρ c)

/-- The slot an element of a landing buffer lies in. -/
def slotOf (i : S32x16x512.Idx) : Fin 32 := ⟨(i 0).val, (i 0).isLt⟩

theorem slotOf_mem {s : Fin 32} {i : S32x16x512.Idx} (h : i ∈ (slotR s).set) : slotOf i = s := by
  have h0 := Rect.mem_set_unit.mp h 0
  have h1 : s.val ≤ (i 0).val := h0.1
  have h2 : (i 0).val < s.val + 1 := h0.2
  exact Fin.ext (by show (i 0).val = s.val; omega)

/-- The reduce-scatter landing buffer of device `c`: slot `s` holds rows of `c` of device `s`'s rounded product. -/
def RS (c : Dev nD) : (cc0_scratch2 : Ref sig .tc).ty.Contents (Elt F) := fun i =>
  (rsS (slotOf i)).view.write (Elt F) (m ((c : Thread nD τ).loc cc0_scratch2)) ((pbfR c).view.read (Elt F) (PB m ρ (slotOf i))) Finset.univ i

/-- What a load of slot `s` reads. -/
def rsV (c s : Dev nD) : Vec F S1x16x512 .bf16 := rsM.view.readAt (Elt F) (slotR s).toLoadRect (RS m ρ c)

/-- The sum of the rows of `c` after `n` of its peers' were added. -/
def ACC (c : Dev nD) : ℕ → FVec F S16x512 .f32
  | 0 => partM.view.readAt (Elt F) (rowsR c).toLoadRect (PT m ρ c)
  | n + 1 => addf (ACC c n) (extf .f32 (shapeCast S16x512 (rsV m ρ c (pr c n)) shapeCasts_S1x16x512_S16x512 : FVec F S16x512 .bf16) bitsLt_bf16_f32)

def RED (c : Dev nD) : (cc0_scratch3 : Ref sig .tc).ty.Contents (Elt F) :=
  shapeCast S16x512 (truncf .bf16 (ACC m ρ c 31) bitsLt_bf16_f32 : FVec F S16x512 .bf16) shapeCasts_S16x512_S16x512

/-- The all-gather landing buffer of device `c`: slot `s` holds device `s`'s reduced rows. -/
def AG (c : Dev nD) : (cc0_scratch4 : Ref sig .tc).ty.Contents (Elt F) := fun i =>
  (agS (slotOf i)).view.write (Elt F) (m ((c : Thread nD τ).loc cc0_scratch4)) (redM.view.read (Elt F) (RED m ρ (slotOf i))) Finset.univ i

/-- The result of device `c`. -/
def OUT (c : Dev nD) : (cc0_stg2_0 : Ref sig .tc).ty.Contents (Elt F) := k0_pay19 (AG m ρ c)

/-! ## What is handed over -/

def rsP (c : Dev nD) (s : Fin 32) (f : Buf (Elt F) ((rsS s).view.loc (c : Thread nD τ))) : sProp 𝕄 :=
  (rsS s).view.loc (c : Thread nD τ) ↦[(rsS s).view.set]{fullShare} f
def agP (c : Dev nD) (s : Fin 32) (f : Buf (Elt F) ((agS s).view.loc (c : Thread nD τ))) : sProp 𝕄 :=
  (agS s).view.loc (c : Thread nD τ) ↦[(agS s).view.set]{fullShare} f
def rowP (c : Dev nD) (b : Fin 32) : sProp 𝕄 :=
  (pbfR b).view.loc (c : Thread nD τ) ↦[(pbfR b).view.set]{fullShare} PB m ρ c
def redP (c : Dev nD) (q : PosShare TreeShare) : sProp 𝕄 :=
  redM.view.loc (c : Thread nD τ) ↦[redM.view.set]{q} RED m ρ c

/-- The share of the reduced rows lent to step `r`'s transfer, and what is left after the first `n` of them. -/
abbrev lent (r : ℕ) : PosShare TreeShare := shareTokN fullShare r
abbrev left (n : ℕ) : PosShare TreeShare := shareDrop fullShare n

omit [FloatOps F] in
instance rsP_storable (c : Dev nD) (s) (f) : BI.Storable (upEmb : UEmb _ 𝕄) (rsP (F := F) c s f) := by unfold rsP; infer_instance
omit [FloatOps F] in
instance agP_storable (c : Dev nD) (s) (f) : BI.Storable (upEmb : UEmb _ 𝕄) (agP (F := F) c s f) := by unfold agP; infer_instance
instance rowP_storable (c : Dev nD) (b) : BI.Storable (upEmb : UEmb _ 𝕄) (rowP m ρ c b) := by unfold rowP; infer_instance
instance redP_storable (c : Dev nD) (q) : BI.Storable (upEmb : UEmb _ 𝕄) (redP m ρ c q) := by unfold redP; infer_instance

/-- The two landing places device `p` keeps for device `s`. -/
def places (p s : Dev nD) : sProp 𝕄 := iprop((∃ f, rsP p s f) ∗ ∃ f, agP p s f)

/-- What a unit of semaphore `(k, i)` of device `c` hands over. -/
def pay4 (c : Dev nD) (k : Fin 4) (i : Fin 32) : sProp 𝕄 :=
  match k with
  | 0 => rowP m ρ c ⟨(c.val + i.val) % 32, Nat.mod_lt _ (by decide)⟩
  | 1 => rsP c i (RS m ρ c)
  | 2 => redP m ρ c (lent (i.val - 1))
  | 3 => agP c i (AG m ρ c)

instance pay4_storable (c : Dev nD) (k) (i) : BI.Storable (upEmb : UEmb _ 𝕄) (pay4 m ρ c k i) := by
  unfold pay4; split <;> infer_instance
omit [FloatOps F] in
instance places_storable (p s : Dev nD) : BI.Storable (upEmb : UEmb _ 𝕄) (places (F := F) p s) := by
  unfold places; infer_instance

/-- The array and the index of a DMA semaphore. -/
def arrOf (q : DmaSem sig) : Fin 4 := ⟨(q.val - 3) / 32 % 4, Nat.mod_lt _ (by decide)⟩
def ixOf (q : DmaSem sig) : Fin 32 := ⟨(q.val - 3) % 32, Nat.mod_lt _ (by decide)⟩
theorem arrOf_sem4 (k : Fin 4) (i : Fin 32) : arrOf (sem4 k i) = k := by
  have := k.isLt; have := i.isLt
  refine Fin.ext ?_
  show (3 + 32 * k.val + i.val - 3) / 32 % 4 = k.val; omega
theorem ixOf_sem4 (k : Fin 4) (i : Fin 32) : ixOf (sem4 k i) = i := by
  have := k.isLt; have := i.isLt
  refine Fin.ext ?_
  show (3 + 32 * k.val + i.val - 3) % 32 = i.val; omega

/-- The index of array `k` that device `c` leaves unused. -/
def hole (c : Dev nD) (k : Fin 4) : Fin 32 := if k.val % 2 = 0 then 0 else c

/-- A DMA cell of device `c` that is used. -/
def live (c : Dev nD) (q : DmaSem sig) : Prop := 3 ≤ q.val ∧ ixOf q ≠ hole c (arrOf q)
instance (c : Dev nD) (q : DmaSem sig) : Decidable (live c q) := by unfold live; infer_instance

theorem live_sem4 {c : Dev nD} {k : Fin 4} {i : Fin 32} : live c (sem4 k i) ↔ i ≠ hole c k := by
  unfold live; rw [arrOf_sem4, ixOf_sem4]
  exact ⟨fun h => h.2, fun h => ⟨by rw [sem4_val]; omega, h⟩⟩

theorem fi_live (c : Dev nD) {r : ℕ} (h : r < 31) (k : Fin 4) (hk : k.val % 2 = 0) : live c (sem4 k (fi r)) := by
  rw [live_sem4]; unfold hole; rw [if_pos hk]
  intro e; have := congrArg Fin.val e
  have h1 : (fi r).val = (r + 1) % 32 := rfl
  rw [h1] at this
  have h2 : ((0 : Fin 32)).val = 0 := rfl
  rw [h2] at this; omega
theorem dev_live {c s : Dev nD} (h : s ≠ c) (k : Fin 4) (hk : k.val % 2 = 1) : live c (sem4 k s) := by
  rw [live_sem4]; unfold hole; rw [if_neg (by omega)]; exact h

/-- One round, round 0: the 31 units of a barrier cell, the unit `j` being the one of the device `j + 1` places up, and
    one transfer's credit on every used DMA cell. -/
def sched : Rounds.Schedule (GSem nD τ sig) ℕ 𝕄 where
  duties g r := if r = 0 ∧ g.1.2 = .tc then
      (match g.2 with
        | .reg s => if s = barS then Finset.Ico 0 31 else ∅
        | .dma q => if live g.1.1 q then {0} else ∅)
    else ∅
  unitless _ := False
  amount g _ _ := match g.2 with
    | .reg _ => 1
    | .dma _ => N
  payload g _ d := match g.2 with
    | .reg _ => places (pr g.1.1 d) g.1.1
    | .dma q => pay4 m ρ g.1.1 (arrOf q) (ixOf q)
  amount_pos g _ _ _ := by
    rcases g with ⟨t, s | q⟩
    · exact Nat.one_pos
    · exact N_pos

instance sched_storable (g : GSem nD τ sig) (r : ℕ) (d : ℕ) :
    BI.Storable (upEmb : UEmb _ 𝕄) ((sched (F := F) m ρ).payload g r d) := by
  rcases g with ⟨t, s | q⟩
  · show BI.Storable upEmb (places (pr t.1 d) t.1); infer_instance
  · show BI.Storable upEmb (pay4 m ρ t.1 (arrOf q) (ixOf q)); infer_instance

theorem duties_bar (c : Dev nD) : (sched m ρ).duties (bC c) 0 = Finset.Ico 0 31 := by
  dsimp only [sched]; rw [if_pos ⟨rfl, rfl⟩]; exact if_pos rfl
theorem duties_live {c : Dev nD} {k : Fin 4} {i : Fin 32} (h : live c (sem4 k i)) :
    (sched m ρ).duties (gc c (some (k, i))) 0 = {0} := by
  dsimp only [sched]; rw [if_pos ⟨rfl, rfl⟩]; exact if_pos h
theorem duties_hole (c : Dev nD) (k : Fin 4) (r : ℕ) : (sched m ρ).duties (gc c (some (k, hole c k))) r = ∅ := by
  dsimp only [sched]
  by_cases h : r = 0
  · rw [if_pos ⟨h, rfl⟩]; exact if_neg fun h' => live_sem4.mp h' rfl
  · rw [if_neg fun h' => h h'.1]
theorem duties_later (g : GSem nD τ sig) : ∀ r, 1 ≤ r → (sched m ρ).duties g r = ∅ :=
  fun r hr => by dsimp only [sched]; rw [if_neg fun h => by omega]

theorem amount_bar (c : Dev nD) (d : ℕ) : (sched m ρ).amount (bC c) 0 d = 1 := rfl
theorem amount_dma (c : Dev nD) (i : Fin 4 × Fin 32) (d : ℕ) : (sched m ρ).amount (gc c (some i)) 0 d = N := rfl
theorem expect_bar (c : Dev nD) : (sched m ρ).expect (bC c) 0 = 31 := by
  unfold Schedule.expect Schedule.amountOf
  rw [duties_bar, Finset.sum_congr rfl fun d _ => amount_bar m ρ c d, Finset.sum_const]; rfl
theorem expect_live {c : Dev nD} {k : Fin 4} {i : Fin 32} (h : live c (sem4 k i)) :
    (sched m ρ).expect (gc c (some (k, i))) 0 = N := by
  unfold Schedule.expect Schedule.amountOf; rw [duties_live m ρ h, Finset.sum_singleton, amount_dma]
theorem payload_bar (c : Dev nD) (d : ℕ) : (sched m ρ).payload (bC c) 0 d = places (pr c d) c := rfl
theorem payload_dma (c : Dev nD) (k : Fin 4) (i : Fin 32) (d : ℕ) :
    (sched m ρ).payload (gc c (some (k, i))) 0 d = pay4 m ρ c k i := by
  show pay4 m ρ c (arrOf (sem4 k i)) (ixOf (sem4 k i)) = _
  rw [arrOf_sem4, ixOf_sem4]
theorem rest_bar (c : Dev nD) : bigSep ((sched m ρ).duties (bC c) 0 \ ∅) (fun d => (sched m ρ).payload (bC c) 0 d)
    = bigSep (Finset.Ico 0 31) fun d => places (pr c d) c := by
  rw [Finset.sdiff_empty, duties_bar]; rfl
theorem rest_live {c : Dev nD} {k : Fin 4} {i : Fin 32} (h : live c (sem4 k i)) :
    bigSep ((sched m ρ).duties (gc c (some (k, i))) 0 \ ∅) (fun d => (sched m ρ).payload (gc c (some (k, i))) 0 d) = pay4 m ρ c k i := by
  rw [Finset.sdiff_empty, duties_live m ρ h, bigSep_singleton, payload_dma]

/-! ## What a device owes, and the levels -/

def oB (c : Dev nD) (n : ℕ) : CellTallies nD τ sig Unit := ∑ r ∈ Finset.Ico n 31, tallyAt (bC (pr c r)) () 1
def oV (c : Dev nD) (n : ℕ) : CellTallies nD τ sig Unit := ∑ r ∈ Finset.Ico n 31, tallyAt (vC (pr c r) c) () N
def oA (c : Dev nD) (n : ℕ) : CellTallies nD τ sig Unit := ∑ r ∈ Finset.Ico n 31, tallyAt (avC (pr c r) c) () N
def O₀ (c : Dev nD) : CellTallies nD τ sig Unit := oA c 0 + oV c 0 + oB c 0

theorem sum_bot {n : ℕ} (h : n < 31) (f : ℕ → CellTallies nD τ sig Unit) :
    ∑ r ∈ Finset.Ico n 31, f r = (∑ r ∈ Finset.Ico (n + 1) 31, f r) + f n := by
  have e : Finset.Ico n 31 = insert n (Finset.Ico (n + 1) 31) := by
    ext x; simp only [Finset.mem_Ico, Finset.mem_insert]; omega
  rw [e, Finset.sum_insert (by simp), add_comm]

theorem oB_succ (c : Dev nD) {n : ℕ} (h : n < 31) : oB c n = oB c (n + 1) + tallyAt (bC (pr c n)) () 1 := by
  unfold oB; exact sum_bot h _
theorem oV_succ (c : Dev nD) {n : ℕ} (h : n < 31) : oV c n = oV c (n + 1) + tallyAt (vC (pr c n) c) () N := by
  unfold oV; exact sum_bot h _
theorem oA_succ (c : Dev nD) {n : ℕ} (h : n < 31) : oA c n = oA c (n + 1) + tallyAt (avC (pr c n) c) () N := by
  unfold oA; exact sum_bot h _
theorem oB_end (c : Dev nD) : oB c 31 = 0 := by unfold oB; rw [Finset.Ico_self, Finset.sum_empty]
theorem oV_end (c : Dev nD) : oV c 31 = 0 := by unfold oV; rw [Finset.Ico_self, Finset.sum_empty]
theorem oA_end (c : Dev nD) : oA c 31 = 0 := by unfold oA; rw [Finset.Ico_self, Finset.sum_empty]

theorem sum_pos {S : Finset ℕ} {f : ℕ → GSem nD τ sig} {a : ℕ} {g : GSem nD τ sig} {u : Unit}
    (h : 0 < (∑ r ∈ S, (tallyAt (f r) () a : CellTallies nD τ sig Unit)) g u) : ∃ r ∈ S, g = f r := by
  induction S using Finset.induction_on with
  | empty => rw [Finset.sum_empty] at h; exact absurd h (Nat.lt_irrefl 0)
  | insert x S hx ih =>
    rw [Finset.sum_insert hx, Pi.add_apply, Finsupp.add_apply] at h
    by_cases h1 : g = f x
    · exact ⟨x, Finset.mem_insert_self _ _, h1⟩
    · rw [tallyAt_apply, if_neg fun h' => h1 h'.1, Nat.zero_add] at h
      obtain ⟨r, hr, e⟩ := ih h
      exact ⟨r, Finset.mem_insert_of_mem hr, e⟩

def L (g : GSem nD τ sig) : Finset Unit := if g.1.2 = .tc then {()} else ∅
/-- Barrier cells at 1, the reduce-scatter's receive cells at 2, the all-gather's at 3, all others at 0. -/
def lv (g : GSem nD τ sig) (_ : Unit) : ℕ := match g.2 with
  | .reg _ => 1
  | .dma q => if 3 ≤ q.val then (match arrOf q with | 0 => 0 | 1 => 2 | 2 => 0 | 3 => 3) else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (bC c) u = 1 := rfl
theorem lv_dma (c : Dev nD) (k : Fin 4) (i : Fin 32) (u : Unit) :
    lv (gc c (some (k, i))) u = (match k with | 0 => 0 | 1 => 2 | 2 => 0 | 3 => 3) := by
  show (if 3 ≤ (sem4 k i).val then (match arrOf (sem4 k i) with | 0 => 0 | 1 => 2 | 2 => 0 | 3 => 3) else 0) = _
  rw [if_pos (by rw [sem4_val]; omega), arrOf_sem4]

theorem oA_pos {c : Dev nD} {n : ℕ} {g : GSem nD τ sig} {u : Unit} (h : 0 < oA c n g u) : g.1.2 = .tc ∧ lv g u = 3 := by
  obtain ⟨r, -, rfl⟩ := sum_pos h; exact ⟨rfl, lv_dma _ _ _ _⟩
theorem oV_pos {c : Dev nD} {n : ℕ} {g : GSem nD τ sig} {u : Unit} (h : 0 < oV c n g u) : g.1.2 = .tc ∧ lv g u = 2 := by
  obtain ⟨r, -, rfl⟩ := sum_pos h; exact ⟨rfl, lv_dma _ _ _ _⟩
theorem oB_pos {c : Dev nD} {n : ℕ} {g : GSem nD τ sig} {u : Unit} (h : 0 < oB c n g u) : g.1.2 = .tc ∧ lv g u = 1 := by
  obtain ⟨r, -, rfl⟩ := sum_pos h; exact ⟨rfl, rfl⟩

theorem add_pos_cases {A B : CellTallies nD τ sig Unit} {g : GSem nD τ sig} {u : Unit} (h : 0 < (A + B) g u) : 0 < A g u ∨ 0 < B g u := by
  rw [Pi.add_apply, Finsupp.add_apply] at h; omega

/-- The levels, as the devices' shared knowledge. -/
@[irreducible] def levels : sProp 𝕄 := levAts L lv

instance levels_persistent : BI.Persistent (levels : sProp 𝕄) := by unfold levels; infer_instance

omit [FloatOps F] in
/-- A wait on a cell below everything owed. -/
theorem mayWait (c : Dev nD) (sm : SemLoc sig) (O : CellTallies nD τ sig Unit) (l : ℕ) (hl : lv ((c : Thread nD τ), sm) () ≤ l)
    (hO : ∀ g u, 0 < O g u → g.1.2 = .tc ∧ l < lv g u) :
    (levels : sProp 𝕄) ⊢ MayWait (c : Thread nD τ) sm () O := by
  unfold levels
  exact MayOwe.of_cut (L := L) (lev := lv) l (fun p hp => by rw [Finset.mem_singleton.mp hp, L_tc]; exact Finset.mem_singleton_self _)
    (fun g u hg => by show u ∈ (if g.1.2 = .tc then {()} else ∅ : Finset Unit); rw [if_pos (hO g u hg).1]; exact Finset.mem_singleton_self _)
    (fun p hp => by rw [Finset.mem_singleton.mp hp]; exact hl)
    (fun g u hg => (hO g u hg).2)

/-! ## The records every device may open -/

def records (K : Dev nD × CI → ℕ) : sProp 𝕄 :=
  iprop((bigSep Finset.univ fun x : Dev nD × CI => cellInv ER (sched m ρ) (K x) (kcell x))
    ∗ (bigSep Finset.univ fun x : Dev nD × CI => reached ER (kcell x) 0) ∗ levels)

instance records_persistent (K : Dev nD × CI → ℕ) : BI.Persistent (records m ρ K) := by unfold records; infer_instance

theorem inv_at (K : Dev nD × CI → ℕ) (c : Dev nD) (i : CI) : records m ρ K ⊢ cellInv ER (sched m ρ) (K (c, i)) (gc c i) := by
  have h : (bigSep Finset.univ fun x : Dev nD × CI => (cellInv ER (sched m ρ) (K x) (kcell x) : sProp 𝕄)) ⊢ cellInv ER (sched m ρ) (K (c, i)) (kcell (c, i)) :=
    bigSep_elim (Finset.mem_univ (c, i))
  unfold records; iintro ⟨H, -, -⟩
  iapply h; iexact H
theorem reached_at (K : Dev nD × CI → ℕ) (c : Dev nD) (i : CI) : records m ρ K ⊢ reached ER (gc c i) 0 := by
  have h : (bigSep Finset.univ fun x : Dev nD × CI => (reached ER (kcell x) 0 : sProp 𝕄)) ⊢ reached ER (kcell (c, i)) 0 :=
    bigSep_elim (Finset.mem_univ (c, i))
  unfold records; iintro ⟨-, H, -⟩
  iapply h; iexact H
theorem lev_at (K : Dev nD × CI → ℕ) : records m ρ K ⊢ levels := by
  unfold records; iintro ⟨-, -, H⟩; iexact H

theorem may_at (K : Dev nD × CI → ℕ) (c : Dev nD) (sm : SemLoc sig) (O : CellTallies nD τ sig Unit) (l : ℕ) (hl : lv ((c : Thread nD τ), sm) () ≤ l)
    (hO : ∀ g u, 0 < O g u → g.1.2 = .tc ∧ l < lv g u) : records m ρ K ⊢ MayWait (c : Thread nD τ) sm () O :=
  (lev_at m ρ K).trans (mayWait c sm O l hl hO)

end Cert.RunProof
end
end
-- ==== Proof.Steps.lean ====
/-
One rule per kind of operation of the kernel, each from the state before step `n` of its phase to the state after it.

A phase's state lists what its remaining steps need (`Finset.Ico n 31`) and what its done steps left (`Finset.Ico 0 n`).
-/
module

public import proofs.«01_k».proof.Proof.Proto

@[expose] public section

set_option maxRecDepth 8000

noncomputable section

namespace Cert.RunProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

abbrev 𝒱₀ : Variants := Variants.none

/-- A program of device `c`'s core. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A program that has ended. -/
theorem wp_done (c : Dev nD) {α : Type} (a : α) (Q : α → sProp 𝕄) : Q a ⊢ WP c (.ret a) Q := le_wp_ret _ _ _ a Q

/-! ## Waits on DMA cells -/

/-- A wait phase on array `k`, step `r` waiting on index `ix r`, while `O` is owed. -/
def WSt (c : Dev nD) (k : Fin 4) (ix : ℕ → Fin 32) (O : CellTallies nD τ sig Unit) (n : ℕ) : sProp 𝕄 :=
  iprop(records m ρ K ∗ (∃ W, owes (c : Thread nD τ) O W)
    ∗ (bigSep (Finset.Ico n 31) fun r => iprop(cred (tallyAt (gc c (some (k, ix r))) () N) ∗ atPos ER (gc c (some (k, ix r))) 0 ∅ 0))
    ∗ (bigSep (Finset.Ico 0 n) fun r => iprop(semVal (gc c (some (k, ix r))) 0 ∗ pay4 m ρ c k (ix r))))

theorem st_wait (c : Dev nD) {k : Fin 4} {ix : ℕ → Fin 32} {O : CellTallies nD τ sig Unit} {n : ℕ} (hn : n < 31)
    (hl : live c (sem4 k (ix n))) (hO : ∀ g u, 0 < O g u → g.1.2 = .tc ∧ lv (gc c (some (k, ix n))) () < lv g u)
    {w : TpuEff nD τ sig (Elt F) Λ₀ (c : Thread nD τ).2 PUnit}
    (hw : ∀ Q : PUnit → sProp 𝕄, wpE (defs₀ (F := F)) 𝒱₀ (c : Thread nD τ) none Set.univ w Q = waitSpec (c : Thread nD τ) Set.univ (.dma (sem4 k (ix n))) N Q)
    {α : Type} {p : PUnit → Prog (TpuEff nD τ sig (Elt F) Λ₀ .tc) α} {Q : α → sProp 𝕄} :
    WSt m ρ K c k ix O n ⊢ iprop((WSt m ρ K c k ix O (n + 1) -∗ WP c (p ⟨⟩) Q) -∗ WP c (.op w p) Q) := by
  unfold WSt
  rw [big_bot hn, big_top]
  iintro ⟨#HR, ⟨%W, HO⟩, ⟨⟨Hc, Hat⟩, Hto⟩, Hdone⟩ Hk
  ihave #HI := (inv_at m ρ K c (some (k, ix n))) $$ HR
  iapply (Rounds.wp_wait_rest_token 𝒱₀ ER (sched m ρ) (c : Thread nD τ) none (κ := K (c, some (k, ix n)))
      hw (Set.mem_univ _) () (O := O) (W := W) (R := 0) (m := 0) (T := ∅)
      (by rw [Nat.zero_add]; exact (expect_live m ρ hl).symm)) $$ [Hc HO Hat]
  · isplitr; · iexact HI
    isplitl [Hc]; · iexact Hc
    isplitl [HO]; · iexact HO
    isplitr; · iapply (may_at m ρ K c (.dma (sem4 k (ix n))) O _ le_rfl hO); iexact HR
    iexact Hat
  iintro ⟨HO, Hat, -, Hpay⟩
  ihave Hpay := (Entails.of_eq (rest_live m ρ hl)) $$ Hpay
  imod (Rounds.cell_close ER (sched m ρ) (Set.mem_univ (K (c, some (k, ix n)))) (fun h => h) (R := 0 + 1) (duties_later m ρ _)) $$ [Hat] with Hz
  · isplitr; · iexact HI
    iexact Hat
  iapply Hk
  isplitr; · iexact HR
  isplitl [HO]; · iexists _; iexact HO
  isplitl [Hto]; · iexact Hto
  isplitl [Hz Hpay]
  · isplitl [Hz] <;> iassumption
  iexact Hdone

/-! ## The entry handshake -/

/-- Before step `n` of the 31 signals. -/
def SigSt (c : Dev nD) (n : ℕ) : sProp 𝕄 :=
  iprop(records m ρ K ∗ (∃ W, owes (c : Thread nD τ) (oA c 0 + oV c 0 + oB c n) W)
    ∗ (bigSep (Finset.Ico n 31) fun r => iprop(dutyTok ER (bC (pr c r)) 0 (30 - r) ∗ places c (pr c r))))

theorem st_sig (c : Dev nD) {n : ℕ} (hn : n < 31) {dst : Dev nD} (hd : dst = pr c n)
    {α : Type} {p : PUnit → Prog (TpuEff nD τ sig (Elt F) Λ₀ .tc) α} {Q : α → sProp 𝕄} :
    SigSt m ρ K c n ⊢ iprop((SigSt m ρ K c (n + 1) -∗ WP c (p ⟨⟩) Q) -∗ WP c (.op (.semSignal (dst : Thread nD τ) barS (1#32).toInt) p) Q) := by
  subst hd
  unfold SigSt
  rw [big_bot hn]
  iintro ⟨#HR, ⟨%W, HO⟩, ⟨Ht, Hp⟩, Hto⟩ Hk
  ihave #HI := (inv_at m ρ K (pr c n) none) $$ HR
  ihave #Hr := (reached_at m ρ K (pr c n) none) $$ HR
  have e : oA c 0 + oV c 0 + oB c n = (oA c 0 + oV c 0 + oB c (n + 1)) + tallyAt (bC (pr c n)) () 1 := by rw [oB_succ c hn, add_assoc, add_assoc, add_assoc]
  iapply (Rounds.wp_signal 𝒱₀ ER (sched m ρ) (c : Thread nD τ) none (dst := (pr c n : Thread nD τ)) (sem := barS) (κ := K (pr c n, none)) (r := 0)
      (d := 30 - n) (k' := 1) (by rw [duties_bar]; exact Finset.mem_Ico.mpr ⟨Nat.zero_le _, by omega⟩) (amount_bar m ρ (pr c n) (30 - n)) ()
      (oA c 0 + oV c 0 + oB c (n + 1)) e) $$ [HO Ht Hp]
  · isplitr; · iexact HI
    isplitl [HO]; · iexact HO
    isplitl [Ht]; · iexact Ht
    isplitl [Hp]; · rw [payload_bar, pr_back hn]; iexact Hp
    iexact Hr
  iintro HO
  iapply Hk
  isplitr; · iexact HR
  isplitl [HO]; · iexists _; iexact HO
  iexact Hto

/-- After the wait for the 31 others: each one's landing places for `c`. -/
def BarSt (c : Dev nD) : sProp 𝕄 :=
  iprop(records m ρ K ∗ (∃ W, owes (c : Thread nD τ) (oA c 0 + oV c 0) W) ∗ semVal (bC c) 0
    ∗ (bigSep (Finset.Ico 0 31) fun r => places (pr c r) c))

theorem st_bar (c : Dev nD) {α : Type} {p : PUnit → Prog (TpuEff nD τ sig (Elt F) Λ₀ .tc) α} {Q : α → sProp 𝕄} :
    iprop(SigSt m ρ K c 31 ∗ cred (tallyAt (bC c) () 31) ∗ atPos ER (bC c) 0 ∅ 0)
      ⊢ iprop((BarSt m ρ K c -∗ WP c (p ⟨⟩) Q) -∗ WP c (.op (.semWait barS (31#32).toInt) p) Q) := by
  unfold SigSt BarSt
  rw [oB_end, add_zero]
  iintro ⟨⟨#HR, ⟨%W, HO⟩, -⟩, Hc, Hat⟩ Hk
  ihave #HI := (inv_at m ρ K c none) $$ HR
  iapply (Rounds.wp_wait_rest_token 𝒱₀ ER (sched m ρ) (c : Thread nD τ) none (κ := K (c, none))
      (wpE_semWait_eq 𝒱₀ (c : Thread nD τ) none Set.univ) (Set.mem_univ _) () (O := oA c 0 + oV c 0) (W := W) (R := 0) (m := 0) (T := ∅)
      (by rw [expect_bar]; decide)) $$ [Hc HO Hat]
  · isplitr; · iexact HI
    isplitl [Hc]; · iexact Hc
    isplitl [HO]; · iexact HO
    isplitr
    · iapply (may_at m ρ K c (.reg barS) (oA c 0 + oV c 0) 1 le_rfl fun g u hg => by
        rcases add_pos_cases hg with h | h
        · exact ⟨(oA_pos h).1, by rw [(oA_pos h).2]; decide⟩
        · exact ⟨(oV_pos h).1, by rw [(oV_pos h).2]; decide⟩)
      iexact HR
    iexact Hat
  iintro ⟨HO, Hat, -, Hpay⟩
  ihave Hpay := (Entails.of_eq (rest_bar m ρ c)) $$ Hpay
  imod (Rounds.cell_close ER (sched m ρ) (Set.mem_univ (K (c, none))) (fun h => h) (R := 0 + 1) (duties_later m ρ _)) $$ [Hat] with Hz
  · isplitr; · iexact HI
    iexact Hat
  iapply Hk
  isplitr; · iexact HR
  isplitl [HO]; · iexists _; iexact HO
  isplitl [Hz] <;> iassumption

/-! ## Semaphores by their arrays -/

abbrev smat (A : DmaSems sig S32) (off : Fin 1 → ℕ) (h : ∀ a, off a + S1.size a ≤ S32.size a) : DmaSem sig :=
  ((A.slice (Rect.unit (s := S32) off S1.size h)).squeeze S_ squeezes_S1_S_).sem

theorem at_inb (i : Fin 32) : ∀ a, (![i.val] : Fin 1 → ℕ) a + S1.size a ≤ S32.size a := by
  have := i.isLt
  intro a; fin_cases a
  show i.val + 1 ≤ 32; omega

theorem smat0 {off : Fin 1 → ℕ} {h} (i : Fin 32) (e : off = ![i.val]) : smat cc0_scratch5 off h = sem4 0 i := by
  subst e; exact (by decide +kernel : ∀ i : Fin 32, smat cc0_scratch5 ![i.val] (at_inb i) = sem4 0 i) i
theorem smat1 {off : Fin 1 → ℕ} {h} (i : Fin 32) (e : off = ![i.val]) : smat cc0_scratch6 off h = sem4 1 i := by
  subst e; exact (by decide +kernel : ∀ i : Fin 32, smat cc0_scratch6 ![i.val] (at_inb i) = sem4 1 i) i
theorem smat2 {off : Fin 1 → ℕ} {h} (i : Fin 32) (e : off = ![i.val]) : smat cc0_scratch7 off h = sem4 2 i := by
  subst e; exact (by decide +kernel : ∀ i : Fin 32, smat cc0_scratch7 ![i.val] (at_inb i) = sem4 2 i) i
theorem smat3 {off : Fin 1 → ℕ} {h} (i : Fin 32) (e : off = ![i.val]) : smat cc0_scratch8 off h = sem4 3 i := by
  subst e; exact (by decide +kernel : ∀ i : Fin 32, smat cc0_scratch8 ![i.val] (at_inb i) = sem4 3 i) i

/-! ## What lands -/

theorem land_rs (c s : Dev nD) (fd : Buf (Elt F) ((rsS s).view.loc (c : Thread nD τ))) :
    ((rsS s).view.loc (c : Thread nD τ) ↦[(rsS s).view.set]{fullShare}
        ((rsS s).view.write (Elt F) fd ((pbfR c).view.read (Elt F) (PB m ρ s)) Finset.univ) : sProp 𝕄) = rsP c s (RS m ρ c) := by
  unfold rsP
  rw [View.pointsTo_write_univ_congr (c : Thread nD τ) (rsS s).view fullShare fd (m ((c : Thread nD τ).loc cc0_scratch2))]
  refine pointsTo_congr fun i hi => ?_
  rw [rsS_set] at hi
  unfold RS; rw [slotOf_mem hi]
theorem land_ag (c s : Dev nD) (fd : Buf (Elt F) ((agS s).view.loc (c : Thread nD τ))) :
    ((agS s).view.loc (c : Thread nD τ) ↦[(agS s).view.set]{fullShare}
        ((agS s).view.write (Elt F) fd (redM.view.read (Elt F) (RED m ρ s)) Finset.univ) : sProp 𝕄) = agP c s (AG m ρ c) := by
  unfold agP
  rw [View.pointsTo_write_univ_congr (c : Thread nD τ) (agS s).view fullShare fd (m ((c : Thread nD τ).loc cc0_scratch4))]
  refine pointsTo_congr fun i hi => ?_
  rw [agS_set] at hi
  unfold AG; rw [slotOf_mem hi]

/-! ## The reduce-scatter transfers -/

/-- Before step `n` of the 31 transfers. -/
def RsSt (c : Dev nD) (n : ℕ) : sProp 𝕄 :=
  iprop(records m ρ K ∗ (∃ W, owes (c : Thread nD τ) (oA c 0 + oV c n) W)
    ∗ (bigSep (Finset.Ico n 31) fun r => iprop(rowP m ρ c (pr c r) ∗ (∃ f, rsP (pr c r) c f) ∗ dutyTok ER (sC c r) 0 0 ∗ dutyTok ER (vC (pr c r) c) 0 0))
    ∗ (bigSep (Finset.Ico 0 n) fun r => cred (tallyAt (sC c r) () N)))

theorem row_pay (c : Dev nD) {n : ℕ} (hn : n < 31) : pay4 m ρ c 0 (fi n) = rowP m ρ c (pr c n) := by
  show rowP m ρ c _ = _
  congr 1
  refine Fin.ext ?_
  show (c.val + (n + 1) % 32) % 32 = (c.val + n + 1) % 32
  omega

/-- The transfer of step `n`, at the protocol's cells. -/
theorem send_rs (c : Dev nD) {n : ℕ} (hn : n < 31) (fd : Buf (Elt F) ((rsS c).view.loc (pr c n : Thread nD τ))) (W : Waits sig Unit)
    {hsc : (rsS c : Memref sig (pr c n : Thread nD τ).2.kind .vmem S16x512 .bf16).view.ref.isScScratch = false}
    {hsrc : (pbfR (pr c n)).view.WordExact} {hdst : (rsS c : Memref sig (pr c n : Thread nD τ).2.kind .vmem S16x512 .bf16).view.WordExact}
    {hsem : DmaTarget.Typed .vmem (.dma (sem4 1 c)) (.remote (pr c n : Thread nD τ) (rsS c : Memref sig (pr c n : Thread nD τ).2.kind .vmem S16x512 .bf16) (.dma (sem4 0 (fi n))) hsc)}
    {α : Type} {p : PUnit → Prog (TpuEff nD τ sig (Elt F) Λ₀ .tc) α} {Q : α → sProp 𝕄} :
    iprop(cellInv ER (sched m ρ) (K (c, some (0, fi n))) (sC c n) ∗ cellInv ER (sched m ρ) (K (pr c n, some (1, c))) (vC (pr c n) c)
        ∗ rowP m ρ c (pr c n) ∗ rsP (pr c n) c fd ∗ owes (c : Thread nD τ) (oA c 0 + oV c n) W
        ∗ dutyTok ER (sC c n) 0 0 ∗ reached ER (sC c n) 0 ∗ dutyTok ER (vC (pr c n) c) 0 0 ∗ reached ER (vC (pr c n) c) 0)
      ⊢ iprop(((cred (tallyAt (sC c n) () N) ∗ owes (c : Thread nD τ) (oA c 0 + oV c (n + 1)) W) -∗ WP c (p ⟨⟩) Q) -∗ WP c
        (.op (.enqueueDma (pbfR (pr c n)) (.remote (pr c n : Thread nD τ) (rsS c) (.dma (sem4 0 (fi n))) hsc) (.dma (sem4 1 c)) hsrc hdst hsem) p) Q) := by
  have hl : live c (sem4 0 (fi n)) := fi_live c hn 0 rfl
  have hl' : live (pr c n) (sem4 1 c) := dev_live (pr_ne hn).symm 1 rfl
  have e : oA c 0 + oV c n = (oA c 0 + oV c (n + 1)) + tallyAt (vC (pr c n) c) () N := by rw [oV_succ c hn, add_assoc]
  unfold rowP rsP
  exact Rounds.wp_send_pointsTo 𝒱₀ ER (sched m ρ) (c : Thread nD τ) none (κ₁ := K (c, some (0, fi n))) (κ₂ := K (pr c n, some (1, c)))
    (r₁ := 0) (r₂ := 0) (d₁ := 0) (d₂ := 0) (fd := fd)
    (by rw [duties_live m ρ hl]; exact Finset.mem_singleton_self _) (by rw [duties_live m ρ hl']; exact Finset.mem_singleton_self _)
    () () N rfl (amount_dma m ρ c _ 0) (amount_dma m ρ (pr c n) _ 0) (oA c 0 + oV c (n + 1)) e (W := W)
    (by rw [payload_dma, row_pay m ρ c hn]; unfold rowP; exact BI.Entails.refl _)
    (by rw [payload_dma]; exact Entails.of_eq (land_rs m ρ (pr c n) c fd))

theorem st_rs (c : Dev nD) {n : ℕ} (hn : n < 31) {dst : Dev nD} (hd : dst = pr c n)
    {o1 : Fin 1 → ℕ} {h1} (e1 : o1 = ![c.val]) {o2 : Fin 3 → ℕ} {h2} (e2 : o2 = ![c.val, 0, 0])
    {o3 : Fin 2 → ℕ} {h3} (e3 : o3 = ![16 * (pr c n).val, 0]) {o8 : Fin 1 → ℕ} {h8} (e8 : o8 = ![(fi n).val])
    {hsc} {hsrc} {hdst} {hsem}
    {α : Type} {p : PUnit → Prog (TpuEff nD τ sig (Elt F) Λ₀ .tc) α} {Q : α → sProp 𝕄} :
    RsSt m ρ K c n ⊢ iprop((RsSt m ρ K c (n + 1) -∗ WP c (p ⟨⟩) Q) -∗ WP c
      (.op (.enqueueDma (pbfM.slice (Rect.unit (s := S512x512) o3 S16x512.size h3) (fun _ => rfl))
        (.remote (dst : Thread nD τ) ((rsM.slice (Rect.unit (s := S32x16x512) o2 S1x16x512.size h2) (fun _ => rfl)).squeeze S16x512 squeezes_S1x16x512_S16x512)
          (.dma (smat cc0_scratch5 o8 h8)) hsc) (.dma (smat cc0_scratch6 o1 h1)) hsrc hdst hsem) p) Q) := by
  have q8 := smat0 (h := h8) (fi n) e8
  have q1 := smat1 (h := h1) c e1
  revert hsem
  rw [q8, q1]
  intro hsem
  subst hd e2 e3
  unfold RsSt
  rw [big_bot hn, big_top]
  iintro ⟨#HR, ⟨%W, HO⟩, ⟨⟨Hrow, ⟨%fd, Hd⟩, Ht, Ht'⟩, Hto⟩, Hdone⟩ Hk
  ihave #HI := (inv_at m ρ K c (some (0, fi n))) $$ HR
  ihave #HI' := (inv_at m ρ K (pr c n) (some (1, c))) $$ HR
  ihave #Hr := (reached_at m ρ K c (some (0, fi n))) $$ HR
  ihave #Hr' := (reached_at m ρ K (pr c n) (some (1, c))) $$ HR
  iapply (send_rs m ρ K c hn fd W) $$ [HO Hrow Hd Ht Ht']
  · isplitr; · iexact HI
    isplitr; · iexact HI'
    isplitl [Hrow]; · iexact Hrow
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitr; · iexact HR
  isplitl [HO]; · iexists _; iexact HO
  isplitl [Hto]; · iexact Hto
  isplitl [Hc] <;> iassumption

/-! ## The all-gather transfers -/

/-- Before step `n` of the 31 transfers. -/
def ASt (c : Dev nD) (n : ℕ) : sProp 𝕄 :=
  iprop(records m ρ K ∗ (∃ W, owes (c : Thread nD τ) (oA c n) W) ∗ redP m ρ c (left n)
    ∗ (bigSep (Finset.Ico n 31) fun r => iprop((∃ f, agP (pr c r) c f) ∗ dutyTok ER (asC c r) 0 0 ∗ dutyTok ER (avC (pr c r) c) 0 0))
    ∗ (bigSep (Finset.Ico 0 n) fun r => cred (tallyAt (asC c r) () N)))

theorem red_pay (c : Dev nD) {n : ℕ} (hn : n < 31) : pay4 m ρ c 2 (fi n) = redP m ρ c (lent n) := by
  show redP m ρ c (lent ((n + 1) % 32 - 1)) = _
  rw [show (n + 1) % 32 - 1 = n by omega]

theorem red_split (c : Dev nD) (n : ℕ) : redP m ρ c (left n) ⊣⊢ iprop(redP m ρ c (left (n + 1)) ∗ redP m ρ c (lent n)) := by
  unfold redP
  exact pointsTo_share (PosShare.mem_left_op_right _)

/-- The transfer of step `n`, at the protocol's cells. -/
theorem send_ag (c : Dev nD) {n : ℕ} (hn : n < 31) (fd : Buf (Elt F) ((agS c).view.loc (pr c n : Thread nD τ))) (W : Waits sig Unit)
    {hsc : (agS c : Memref sig (pr c n : Thread nD τ).2.kind .vmem S16x512 .bf16).view.ref.isScScratch = false}
    {hsrc : (redM : Memref sig .tc .vmem S16x512 .bf16).view.WordExact} {hdst : (agS c : Memref sig (pr c n : Thread nD τ).2.kind .vmem S16x512 .bf16).view.WordExact}
    {hsem : DmaTarget.Typed .vmem (.dma (sem4 3 c)) (.remote (pr c n : Thread nD τ) (agS c : Memref sig (pr c n : Thread nD τ).2.kind .vmem S16x512 .bf16) (.dma (sem4 2 (fi n))) hsc)}
    {α : Type} {p : PUnit → Prog (TpuEff nD τ sig (Elt F) Λ₀ .tc) α} {Q : α → sProp 𝕄} :
    iprop(cellInv ER (sched m ρ) (K (c, some (2, fi n))) (asC c n) ∗ cellInv ER (sched m ρ) (K (pr c n, some (3, c))) (avC (pr c n) c)
        ∗ redP m ρ c (lent n) ∗ agP (pr c n) c fd ∗ owes (c : Thread nD τ) (oA c n) W
        ∗ dutyTok ER (asC c n) 0 0 ∗ reached ER (asC c n) 0 ∗ dutyTok ER (avC (pr c n) c) 0 0 ∗ reached ER (avC (pr c n) c) 0)
      ⊢ iprop(((cred (tallyAt (asC c n) () N) ∗ owes (c : Thread nD τ) (oA c (n + 1)) W) -∗ WP c (p ⟨⟩) Q) -∗ WP c
        (.op (.enqueueDma redM (.remote (pr c n : Thread nD τ) (agS c) (.dma (sem4 2 (fi n))) hsc) (.dma (sem4 3 c)) hsrc hdst hsem) p) Q) := by
  have hl : live c (sem4 2 (fi n)) := fi_live c hn 2 rfl
  have hl' : live (pr c n) (sem4 3 c) := dev_live (pr_ne hn).symm 3 rfl
  have e : oA c n = (oA c (n + 1)) + tallyAt (avC (pr c n) c) () N := oA_succ c hn
  unfold redP agP
  exact Rounds.wp_send_pointsTo 𝒱₀ ER (sched m ρ) (c : Thread nD τ) none (κ₁ := K (c, some (2, fi n))) (κ₂ := K (pr c n, some (3, c)))
    (r₁ := 0) (r₂ := 0) (d₁ := 0) (d₂ := 0) (fd := fd)
    (by rw [duties_live m ρ hl]; exact Finset.mem_singleton_self _) (by rw [duties_live m ρ hl']; exact Finset.mem_singleton_self _)
    () () N rfl (amount_dma m ρ c _ 0) (amount_dma m ρ (pr c n) _ 0) (oA c (n + 1)) e (W := W)
    (by rw [payload_dma, red_pay m ρ c hn]; unfold redP; exact BI.Entails.refl _)
    (by rw [payload_dma]; exact Entails.of_eq (land_ag m ρ (pr c n) c fd))

theorem st_ag (c : Dev nD) {n : ℕ} (hn : n < 31) {dst : Dev nD} (hd : dst = pr c n)
    {o1 : Fin 1 → ℕ} {h1} (e1 : o1 = ![c.val]) {o2 : Fin 3 → ℕ} {h2} (e2 : o2 = ![c.val, 0, 0])
    {o8 : Fin 1 → ℕ} {h8} (e8 : o8 = ![(fi n).val])
    {hsc} {hsrc} {hdst} {hsem}
    {α : Type} {p : PUnit → Prog (TpuEff nD τ sig (Elt F) Λ₀ .tc) α} {Q : α → sProp 𝕄} :
    ASt m ρ K c n ⊢ iprop((ASt m ρ K c (n + 1) -∗ WP c (p ⟨⟩) Q) -∗ WP c
      (.op (.enqueueDma redM
        (.remote (dst : Thread nD τ) ((agM.slice (Rect.unit (s := S32x16x512) o2 S1x16x512.size h2) (fun _ => rfl)).squeeze S16x512 squeezes_S1x16x512_S16x512)
          (.dma (smat cc0_scratch7 o8 h8)) hsc) (.dma (smat cc0_scratch8 o1 h1)) hsrc hdst hsem) p) Q) := by
  have q8 := smat2 (h := h8) (fi n) e8
  have q1 := smat3 (h := h1) c e1
  revert hsem
  rw [q8, q1]
  intro hsem
  subst hd e2
  unfold ASt
  rw [big_bot hn, big_top]
  iintro ⟨#HR, ⟨%W, HO⟩, Hred, ⟨⟨⟨%fd, Hd⟩, Ht, Ht'⟩, Hto⟩, Hdone⟩ Hk
  ihave #HI := (inv_at m ρ K c (some (2, fi n))) $$ HR
  ihave #HI' := (inv_at m ρ K (pr c n) (some (3, c))) $$ HR
  ihave #Hr := (reached_at m ρ K c (some (2, fi n))) $$ HR
  ihave #Hr' := (reached_at m ρ K (pr c n) (some (3, c))) $$ HR
  ihave ⟨Hred, Hl⟩ := (red_split m ρ c n).1 $$ Hred
  iapply (send_ag m ρ K c hn fd W) $$ [HO Hl Hd Ht Ht']
  · isplitr; · iexact HI
    isplitr; · iexact HI'
    isplitl [Hl]; · iexact Hl
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitr; · iexact HR
  isplitl [HO]; · iexists _; iexact HO
  isplitl [Hred]; · iexact Hred
  isplitl [Hto]; · iexact Hto
  isplitl [Hc] <;> iassumption

/-! ## The four wait phases, at the printed operands -/

section Waits

/-- What the reduce-scatter waits are at. -/
abbrev VSt (c : Dev nD) (n : ℕ) : sProp 𝕄 := WSt m ρ K c 1 (fun r => pr c r) (oA c 0) n
/-- What the all-gather waits are at. -/
abbrev AVSt (c : Dev nD) (n : ℕ) : sProp 𝕄 := WSt m ρ K c 3 (fun r => pr c r) 0 n
/-- What the waits for the own transfers to have left are at. -/
abbrev SSt (c : Dev nD) (n : ℕ) : sProp 𝕄 := WSt m ρ K c 0 fi 0 n
abbrev ASSt (c : Dev nD) (n : ℕ) : sProp 𝕄 := WSt m ρ K c 2 fi 0 n

theorem none_owed {P : GSem nD τ sig → Unit → Prop} : ∀ g u, 0 < (0 : CellTallies nD τ sig Unit) g u → P g u :=
  fun _ _ h => absurd h (Nat.lt_irrefl 0)

theorem st_v (c : Dev nD) {n : ℕ} (hn : n < 31) {o : Fin 1 → ℕ} {h} (e5 : o = ![(pr c n).val])
    {o' : Fin 3 → ℕ} {h'} {sp' : Space} {s' : Shape} {e' : EltTy} {src : Memref sig .tc sp' s' e'} {hs} {hd}
    {α : Type} {p : PUnit → Prog (TpuEff nD τ sig (Elt F) Λ₀ .tc) α} {Q : α → sProp 𝕄} :
    VSt m ρ K c n ⊢ iprop((VSt m ρ K c (n + 1) -∗ WP c (p ⟨⟩) Q) -∗ WP c (.op (.waitDma2 (smat cc0_scratch6 o h) src ((rsM.slice (Rect.unit (s := S32x16x512) o' S1x16x512.size h') (fun _ => rfl)).squeeze S16x512 squeezes_S1x16x512_S16x512) hs hd) p) Q) := by
  have hw := fun Q : PUnit → sProp 𝕄 => (wpE_waitDma2_eq (defs := defs₀ (F := F)) 𝒱₀ (c : Thread nD τ) none Set.univ (hsrc := hs) (hdst := hd) (src := src) (dst := ((rsM.slice (Rect.unit (s := S32x16x512) o' S1x16x512.size h') (fun _ => rfl)).squeeze S16x512 squeezes_S1x16x512_S16x512)) (sem := smat cc0_scratch6 o h) Q).trans (by rw [smat1 (h := h) (pr c n) e5])
  exact st_wait m ρ K c hn (dev_live (pr_ne hn) 1 rfl) (fun g u hg => ⟨(oA_pos hg).1, by rw [(oA_pos hg).2, lv_dma]; decide⟩) hw

theorem st_av (c : Dev nD) {n : ℕ} (hn : n < 31) {o : Fin 1 → ℕ} {h} (e5 : o = ![(pr c n).val])
    {o' : Fin 3 → ℕ} {h'} {sp' : Space} {s' : Shape} {e' : EltTy} {src : Memref sig .tc sp' s' e'} {hs} {hd}
    {α : Type} {p : PUnit → Prog (TpuEff nD τ sig (Elt F) Λ₀ .tc) α} {Q : α → sProp 𝕄} :
    AVSt m ρ K c n ⊢ iprop((AVSt m ρ K c (n + 1) -∗ WP c (p ⟨⟩) Q) -∗ WP c (.op (.waitDma2 (smat cc0_scratch8 o h) src ((agM.slice (Rect.unit (s := S32x16x512) o' S1x16x512.size h') (fun _ => rfl)).squeeze S16x512 squeezes_S1x16x512_S16x512) hs hd) p) Q) := by
  have hw := fun Q : PUnit → sProp 𝕄 => (wpE_waitDma2_eq (defs := defs₀ (F := F)) 𝒱₀ (c : Thread nD τ) none Set.univ (hsrc := hs) (hdst := hd) (src := src) (dst := ((agM.slice (Rect.unit (s := S32x16x512) o' S1x16x512.size h') (fun _ => rfl)).squeeze S16x512 squeezes_S1x16x512_S16x512)) (sem := smat cc0_scratch8 o h) Q).trans (by rw [smat3 (h := h) (pr c n) e5])
  exact st_wait m ρ K c hn (dev_live (pr_ne hn) 3 rfl) none_owed hw

theorem st_s (c : Dev nD) {n : ℕ} (hn : n < 31) {o : Fin 1 → ℕ} {h} (e5 : o = ![(fi n).val])
    {o' : Fin 2 → ℕ} {h'} {sp' : Space} {s' : Shape} {e' : EltTy} {src : Memref sig .tc sp' s' e'} {hs} {hd}
    {α : Type} {p : PUnit → Prog (TpuEff nD τ sig (Elt F) Λ₀ .tc) α} {Q : α → sProp 𝕄} :
    SSt m ρ K c n ⊢ iprop((SSt m ρ K c (n + 1) -∗ WP c (p ⟨⟩) Q) -∗ WP c (.op (.waitDma2 (smat cc0_scratch5 o h) src (pbfM.slice (Rect.unit (s := S512x512) o' S16x512.size h') (fun _ => rfl)) hs hd) p) Q) := by
  have hw := fun Q : PUnit → sProp 𝕄 => (wpE_waitDma2_eq (defs := defs₀ (F := F)) 𝒱₀ (c : Thread nD τ) none Set.univ (hsrc := hs) (hdst := hd) (src := src) (dst := (pbfM.slice (Rect.unit (s := S512x512) o' S16x512.size h') (fun _ => rfl))) (sem := smat cc0_scratch5 o h) Q).trans (by rw [smat0 (h := h) (fi n) e5])
  exact st_wait m ρ K c hn (fi_live c hn 0 rfl) none_owed hw

theorem st_as (c : Dev nD) {n : ℕ} (hn : n < 31) {o : Fin 1 → ℕ} {h} (e5 : o = ![(fi n).val])
    {sp' : Space} {s' : Shape} {e' : EltTy} {src : Memref sig .tc sp' s' e'} {hs} {hd}
    {α : Type} {p : PUnit → Prog (TpuEff nD τ sig (Elt F) Λ₀ .tc) α} {Q : α → sProp 𝕄} :
    ASSt m ρ K c n ⊢ iprop((ASSt m ρ K c (n + 1) -∗ WP c (p ⟨⟩) Q) -∗ WP c (.op (.waitDma2 (smat cc0_scratch7 o h) src redM hs hd) p) Q) := by
  have hw := fun Q : PUnit → sProp 𝕄 => (wpE_waitDma2_eq (defs := defs₀ (F := F)) 𝒱₀ (c : Thread nD τ) none Set.univ (hsrc := hs) (hdst := hd) (src := src) (dst := redM) (sem := smat cc0_scratch7 o h) Q).trans (by rw [smat2 (h := h) (fi n) e5])
  exact st_wait m ρ K c hn (fi_live c hn 2 rfl) none_owed hw

end Waits

/-- The load of the slot that landed last. -/
theorem st_ld (c : Dev nD) {n : ℕ} {o : Fin 3 → ℕ} {h} (e7 : o = ![(pr c n).val, 0, 0])
    {hl} {α : Type} {p : Vec F S1x16x512 .bf16 → Prog (TpuEff nD τ sig (Elt F) Λ₀ .tc) α} {Q : α → sProp 𝕄} :
    VSt m ρ K c (n + 1) ⊢ iprop((VSt m ρ K c (n + 1) -∗ WP c (p (rsV m ρ c (pr c n))) Q)
      -∗ WP c (.op (.load rsM (Rect.unit (s := S32x16x512) o S1x16x512.size h).toLoadRect hl) p) Q) := by
  subst e7
  have e : pay4 m ρ c 1 (pr c n) = (rsM.view.loc (c : Thread nD τ) ↦[(slotR (pr c n)).set]{fullShare} RS m ρ c : sProp 𝕄) := by
    show rsP c (pr c n) (RS m ρ c) = _
    unfold rsP; rw [rsS_set]
  unfold VSt WSt
  rw [big_top]
  iintro ⟨#HR, HO, Hto, ⟨⟨Hz, Hp⟩, Hdone⟩⟩ Hk
  ihave Hp := (Entails.of_eq e) $$ Hp
  iapply (wp_load 𝒱₀ (c : Thread nD τ) none Set.univ (m := rsM) (S := (slotR (pr c n)).set) (by
    show (View.whole cc0_scratch2).setOn _ ⊆ _
    unfold View.setOn; exact (by rw [Finset.map_refl]))) $$ Hp
  iintro Hp
  iapply Hk
  isplitr; · iexact HR
  isplitl [HO]; · iexact HO
  isplitl [Hto]; · iexact Hto
  isplitr [Hdone]
  · isplitl [Hz]; · iexact Hz
    ihave Hp := (Entails.of_eq e.symm) $$ Hp
    iexact Hp
  iexact Hdone

/-- A part of the kernel at the kernel's own buffers and semaphores. -/
abbrev onK {β : Type _} (f : (a0 : Memref sig .tc .vmem S512x256 .bf16) → a0.IsWhole → (a1 : Memref sig .tc .vmem S256x512 .bf16) → a1.IsWhole → (a2 : Memref sig .tc .vmem S512x512 .f32) → a2.IsWhole → (a3 : Memref sig .tc .vmem S512x512 .f32) → a3.IsWhole → (a4 : Memref sig .tc .vmem S512x512 .bf16) → a4.IsWhole → (a5 : Memref sig .tc .vmem S32x16x512 .bf16) → a5.IsWhole → (a6 : Memref sig .tc .vmem S16x512 .bf16) → a6.IsWhole → (a7 : Memref sig .tc .vmem S32x16x512 .bf16) → a7.IsWhole → DmaSems sig S32 → DmaSems sig S32 → DmaSems sig S32 → DmaSems sig S32 → β) : β :=
  f (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8

end Cert.RunProof
end
end
-- ==== Proof.PartsA.lean ====
/-
The kernel's parts that only signal, and those that only start reduce-scatter transfers.
-/
module

public import proofs.«01_k».proof.Proof.Steps

@[expose] public section

noncomputable section

namespace Cert.RunProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

set_option maxRecDepth 8000

theorem part1 (c : Dev nD) {Q : _ → sProp 𝕄} :
    iprop(SigSt m ρ K c 0 ∗ (∀ a b d, SigSt m ρ K c 5 -∗ Q ⟨c, a, SemArray.scalar (sig.barrier 0 rfl), b, d⟩)) ⊢ WP c (onK (k0_part1 (F := F))) Q := by
  simp only [k0_part1_eq_skeleton]; unfold k0_part1_skel
  simp only [semSignalWord, semWaitWord, Prog.lift, Prog.bind_op, Prog.bind_ret, Prog.pure_eq_ret, wp_deviceId]
  iintro ⟨H, Hk⟩
  iapply (st_sig m ρ K c (n := 0) (by decide) (Fin.ext (k0_dev1_eq c))) $$ H; iintro H
  iapply (st_sig m ρ K c (n := 1) (by decide) (Fin.ext (k0_dev2_eq c))) $$ H; iintro H
  iapply (st_sig m ρ K c (n := 2) (by decide) (Fin.ext (k0_dev3_eq c))) $$ H; iintro H
  iapply (st_sig m ρ K c (n := 3) (by decide) (Fin.ext (k0_dev4_eq c))) $$ H; iintro H
  iapply (st_sig m ρ K c (n := 4) (by decide) (Fin.ext (k0_dev5_eq c))) $$ H; iintro H
  iapply (wp_done c)
  iapply Hk $$ H

theorem part2 (c : Dev nD) (w w0 w1 : BitVec 32) {Q : _ → sProp 𝕄} :
    iprop(SigSt m ρ K c 5 ∗ (∀ a b, SigSt m ρ K c 11 -∗ Q ⟨a, b⟩)) ⊢ WP c (onK (k0_part2 (F := F)) c w (SemArray.scalar (sig.barrier 0 rfl)) w0 w1) Q := by
  simp only [k0_part2_eq_skeleton]; unfold k0_part2_skel
  simp only [semSignalWord, semWaitWord, Prog.lift, Prog.bind_op, Prog.bind_ret, Prog.pure_eq_ret, wp_deviceId]
  iintro ⟨H, Hk⟩
  iapply (st_sig m ρ K c (n := 5) (by decide) (Fin.ext (k0_dev6_eq c))) $$ H; iintro H
  iapply (st_sig m ρ K c (n := 6) (by decide) (Fin.ext (k0_dev7_eq c))) $$ H; iintro H
  iapply (st_sig m ρ K c (n := 7) (by decide) (Fin.ext (k0_dev8_eq c))) $$ H; iintro H
  iapply (st_sig m ρ K c (n := 8) (by decide) (Fin.ext (k0_dev9_eq c))) $$ H; iintro H
  iapply (st_sig m ρ K c (n := 9) (by decide) (Fin.ext (k0_dev10_eq c))) $$ H; iintro H
  iapply (st_sig m ρ K c (n := 10) (by decide) (Fin.ext (k0_dev11_eq c))) $$ H; iintro H
  iapply (wp_done c)
  iapply Hk $$ H

theorem part3 (c : Dev nD) (w w0 w1 : BitVec 32) {Q : _ → sProp 𝕄} :
    iprop(SigSt m ρ K c 11 ∗ (∀ a b, SigSt m ρ K c 17 -∗ Q ⟨a, b⟩)) ⊢ WP c (onK (k0_part3 (F := F)) c w (SemArray.scalar (sig.barrier 0 rfl)) w0 w1) Q := by
  simp only [k0_part3_eq_skeleton]; unfold k0_part3_skel
  simp only [semSignalWord, semWaitWord, Prog.lift, Prog.bind_op, Prog.bind_ret, Prog.pure_eq_ret, wp_deviceId]
  iintro ⟨H, Hk⟩
  iapply (st_sig m ρ K c (n := 11) (by decide) (Fin.ext (k0_dev12_eq c))) $$ H; iintro H
  iapply (st_sig m ρ K c (n := 12) (by decide) (Fin.ext (k0_dev13_eq c))) $$ H; iintro H
  iapply (st_sig m ρ K c (n := 13) (by decide) (Fin.ext (k0_dev14_eq c))) $$ H; iintro H
  iapply (st_sig m ρ K c (n := 14) (by decide) (Fin.ext (k0_dev15_eq c))) $$ H; iintro H
  iapply (st_sig m ρ K c (n := 15) (by decide) (Fin.ext (k0_dev16_eq c))) $$ H; iintro H
  iapply (st_sig m ρ K c (n := 16) (by decide) (Fin.ext (k0_dev17_eq c))) $$ H; iintro H
  iapply (wp_done c)
  iapply Hk $$ H

theorem part4 (c : Dev nD) (w w0 w1 : BitVec 32) {Q : _ → sProp 𝕄} :
    iprop(SigSt m ρ K c 17 ∗ (∀ a b, SigSt m ρ K c 23 -∗ Q ⟨a, b⟩)) ⊢ WP c (onK (k0_part4 (F := F)) c w (SemArray.scalar (sig.barrier 0 rfl)) w0 w1) Q := by
  simp only [k0_part4_eq_skeleton]; unfold k0_part4_skel
  simp only [semSignalWord, semWaitWord, Prog.lift, Prog.bind_op, Prog.bind_ret, Prog.pure_eq_ret, wp_deviceId]
  iintro ⟨H, Hk⟩
  iapply (st_sig m ρ K c (n := 17) (by decide) (Fin.ext (k0_dev18_eq c))) $$ H; iintro H
  iapply (st_sig m ρ K c (n := 18) (by decide) (Fin.ext (k0_dev19_eq c))) $$ H; iintro H
  iapply (st_sig m ρ K c (n := 19) (by decide) (Fin.ext (k0_dev20_eq c))) $$ H; iintro H
  iapply (st_sig m ρ K c (n := 20) (by decide) (Fin.ext (k0_dev21_eq c))) $$ H; iintro H
  iapply (st_sig m ρ K c (n := 21) (by decide) (Fin.ext (k0_dev22_eq c))) $$ H; iintro H
  iapply (st_sig m ρ K c (n := 22) (by decide) (Fin.ext (k0_dev23_eq c))) $$ H; iintro H
  iapply (wp_done c)
  iapply Hk $$ H

theorem part5 (c : Dev nD) (w w0 w1 : BitVec 32) {Q : _ → sProp 𝕄} :
    iprop(SigSt m ρ K c 23 ∗ (∀ a b, SigSt m ρ K c 29 -∗ Q ⟨a, b⟩)) ⊢ WP c (onK (k0_part5 (F := F)) c w (SemArray.scalar (sig.barrier 0 rfl)) w0 w1) Q := by
  simp only [k0_part5_eq_skeleton]; unfold k0_part5_skel
  simp only [semSignalWord, semWaitWord, Prog.lift, Prog.bind_op, Prog.bind_ret, Prog.pure_eq_ret, wp_deviceId]
  iintro ⟨H, Hk⟩
  iapply (st_sig m ρ K c (n := 23) (by decide) (Fin.ext (k0_dev24_eq c))) $$ H; iintro H
  iapply (st_sig m ρ K c (n := 24) (by decide) (Fin.ext (k0_dev25_eq c))) $$ H; iintro H
  iapply (st_sig m ρ K c (n := 25) (by decide) (Fin.ext (k0_dev26_eq c))) $$ H; iintro H
  iapply (st_sig m ρ K c (n := 26) (by decide) (Fin.ext (k0_dev27_eq c))) $$ H; iintro H
  iapply (st_sig m ρ K c (n := 27) (by decide) (Fin.ext (k0_dev28_eq c))) $$ H; iintro H
  iapply (st_sig m ρ K c (n := 28) (by decide) (Fin.ext (k0_dev29_eq c))) $$ H; iintro H
  iapply (wp_done c)
  iapply Hk $$ H

theorem part7 (c : Dev nD) (w : BitVec 32) {Q : _ → sProp 𝕄} :
    iprop(RsSt m ρ K c 0 ∗ (∀ a b, RsSt m ρ K c 3 -∗ Q ⟨a, b⟩)) ⊢ WP c (onK (k0_part7 (F := F)) c w) Q := by
  simp only [k0_part7_eq_skeleton]; unfold k0_part7_skel
  simp only [semSignalWord, semWaitWord, Prog.lift, Prog.bind_op, Prog.bind_ret, Prog.pure_eq_ret, wp_deviceId]
  iintro ⟨H, Hk⟩
  iapply (st_rs m ρ K c (n := 0) (by decide) (Fin.ext (k0_dev32_eq c)) (k0_off1_eq c) (k0_off2_eq c) (k0_off3_eq c 0) rfl) $$ H; iintro H
  iapply (st_rs m ρ K c (n := 1) (by decide) (Fin.ext (k0_dev33_eq c)) (k0_off1_eq c) (k0_off2_eq c) (k0_off3_eq c 1) rfl) $$ H; iintro H
  iapply (st_rs m ρ K c (n := 2) (by decide) (Fin.ext (k0_dev34_eq c)) (k0_off1_eq c) (k0_off2_eq c) (k0_off3_eq c 2) rfl) $$ H; iintro H
  iapply (wp_done c)
  iapply Hk $$ H

theorem part8 (c : Dev nD) (w : BitVec 32) (w0 : BitVec 32) (w1 : BitVec 32) {Q : _ → sProp 𝕄} :
    iprop(RsSt m ρ K c 3 ∗ (∀ a, RsSt m ρ K c 6 -∗ Q a)) ⊢ WP c (onK (k0_part8 (F := F)) c w w0 w1) Q := by
  simp only [k0_part8_eq_skeleton]; unfold k0_part8_skel
  simp only [semSignalWord, semWaitWord, Prog.lift, Prog.bind_op, Prog.bind_ret, Prog.pure_eq_ret, wp_deviceId]
  iintro ⟨H, Hk⟩
  iapply (st_rs m ρ K c (n := 3) (by decide) (Fin.ext (k0_dev35_eq c)) (k0_off1_eq c) (k0_off2_eq c) (k0_off3_eq c 3) rfl) $$ H; iintro H
  iapply (st_rs m ρ K c (n := 4) (by decide) (Fin.ext (k0_dev36_eq c)) (k0_off1_eq c) (k0_off2_eq c) (k0_off3_eq c 4) rfl) $$ H; iintro H
  iapply (st_rs m ρ K c (n := 5) (by decide) (Fin.ext (k0_dev37_eq c)) (k0_off1_eq c) (k0_off2_eq c) (k0_off3_eq c 5) rfl) $$ H; iintro H
  iapply (wp_done c)
  iapply Hk $$ H

theorem part9 (c : Dev nD) (w : BitVec 32) (w0 : BitVec 32) {Q : _ → sProp 𝕄} :
    iprop(RsSt m ρ K c 6 ∗ (RsSt m ρ K c 8 -∗ Q ⟨⟩)) ⊢ WP c (onK (k0_part9 (F := F)) c w w0) Q := by
  simp only [k0_part9_eq_skeleton]; unfold k0_part9_skel
  simp only [semSignalWord, semWaitWord, Prog.lift, Prog.bind_op, Prog.bind_ret, Prog.pure_eq_ret, wp_deviceId]
  iintro ⟨H, Hk⟩
  iapply (st_rs m ρ K c (n := 6) (by decide) (Fin.ext (k0_dev38_eq c)) (k0_off1_eq c) (k0_off2_eq c) (k0_off3_eq c 6) rfl) $$ H; iintro H
  iapply (st_rs m ρ K c (n := 7) (by decide) (Fin.ext (k0_dev39_eq c)) (k0_off1_eq c) (k0_off2_eq c) (k0_off3_eq c 7) rfl) $$ H; iintro H
  iapply (wp_done c)
  iapply Hk $$ H

theorem part10 (c : Dev nD) (w : BitVec 32) {Q : _ → sProp 𝕄} :
    iprop(RsSt m ρ K c 8 ∗ (RsSt m ρ K c 11 -∗ Q ⟨⟩)) ⊢ WP c (onK (k0_part10 (F := F)) c w) Q := by
  simp only [k0_part10_eq_skeleton]; unfold k0_part10_skel
  simp only [semSignalWord, semWaitWord, Prog.lift, Prog.bind_op, Prog.bind_ret, Prog.pure_eq_ret, wp_deviceId]
  iintro ⟨H, Hk⟩
  iapply (st_rs m ρ K c (n := 8) (by decide) (Fin.ext (k0_dev40_eq c)) (k0_off1_eq c) (k0_off2_eq c) (k0_off3_eq c 8) rfl) $$ H; iintro H
  iapply (st_rs m ρ K c (n := 9) (by decide) (Fin.ext (k0_dev41_eq c)) (k0_off1_eq c) (k0_off2_eq c) (k0_off3_eq c 9) rfl) $$ H; iintro H
  iapply (st_rs m ρ K c (n := 10) (by decide) (Fin.ext (k0_dev42_eq c)) (k0_off1_eq c) (k0_off2_eq c) (k0_off3_eq c 10) rfl) $$ H; iintro H
  iapply (wp_done c)
  iapply Hk $$ H

theorem part11 (c : Dev nD) (w : BitVec 32) {Q : _ → sProp 𝕄} :
    iprop(RsSt m ρ K c 11 ∗ (∀ a, RsSt m ρ K c 14 -∗ Q a)) ⊢ WP c (onK (k0_part11 (F := F)) c w) Q := by
  simp only [k0_part11_eq_skeleton]; unfold k0_part11_skel
  simp only [semSignalWord, semWaitWord, Prog.lift, Prog.bind_op, Prog.bind_ret, Prog.pure_eq_ret, wp_deviceId]
  iintro ⟨H, Hk⟩
  iapply (st_rs m ρ K c (n := 11) (by decide) (Fin.ext (k0_dev43_eq c)) (k0_off1_eq c) (k0_off2_eq c) (k0_off3_eq c 11) rfl) $$ H; iintro H
  iapply (st_rs m ρ K c (n := 12) (by decide) (Fin.ext (k0_dev44_eq c)) (k0_off1_eq c) (k0_off2_eq c) (k0_off3_eq c 12) rfl) $$ H; iintro H
  iapply (st_rs m ρ K c (n := 13) (by decide) (Fin.ext (k0_dev45_eq c)) (k0_off1_eq c) (k0_off2_eq c) (k0_off3_eq c 13) rfl) $$ H; iintro H
  iapply (wp_done c)
  iapply Hk $$ H

theorem part12 (c : Dev nD) (w : BitVec 32) (w0 : BitVec 32) {Q : _ → sProp 𝕄} :
    iprop(RsSt m ρ K c 14 ∗ (RsSt m ρ K c 17 -∗ Q ⟨⟩)) ⊢ WP c (onK (k0_part12 (F := F)) c w w0) Q := by
  simp only [k0_part12_eq_skeleton]; unfold k0_part12_skel
  simp only [semSignalWord, semWaitWord, Prog.lift, Prog.bind_op, Prog.bind_ret, Prog.pure_eq_ret, wp_deviceId]
  iintro ⟨H, Hk⟩
  iapply (st_rs m ρ K c (n := 14) (by decide) (Fin.ext (k0_dev46_eq c)) (k0_off1_eq c) (k0_off2_eq c) (k0_off3_eq c 14) rfl) $$ H; iintro H
  iapply (st_rs m ρ K c (n := 15) (by decide) (Fin.ext (k0_dev47_eq c)) (k0_off1_eq c) (k0_off2_eq c) (k0_off3_eq c 15) rfl) $$ H; iintro H
  iapply (st_rs m ρ K c (n := 16) (by decide) (Fin.ext (k0_dev48_eq c)) (k0_off1_eq c) (k0_off2_eq c) (k0_off3_eq c 16) rfl) $$ H; iintro H
  iapply (wp_done c)
  iapply Hk $$ H

theorem part13 (c : Dev nD) (w : BitVec 32) {Q : _ → sProp 𝕄} :
    iprop(RsSt m ρ K c 17 ∗ (RsSt m ρ K c 19 -∗ Q ⟨⟩)) ⊢ WP c (onK (k0_part13 (F := F)) c w) Q := by
  simp only [k0_part13_eq_skeleton]; unfold k0_part13_skel
  simp only [semSignalWord, semWaitWord, Prog.lift, Prog.bind_op, Prog.bind_ret, Prog.pure_eq_ret, wp_deviceId]
  iintro ⟨H, Hk⟩
  iapply (st_rs m ρ K c (n := 17) (by decide) (Fin.ext (k0_dev49_eq c)) (k0_off1_eq c) (k0_off2_eq c) (k0_off3_eq c 17) rfl) $$ H; iintro H
  iapply (st_rs m ρ K c (n := 18) (by decide) (Fin.ext (k0_dev50_eq c)) (k0_off1_eq c) (k0_off2_eq c) (k0_off3_eq c 18) rfl) $$ H; iintro H
  iapply (wp_done c)
  iapply Hk $$ H

theorem part14 (c : Dev nD) (w : BitVec 32) {Q : _ → sProp 𝕄} :
    iprop(RsSt m ρ K c 19 ∗ (∀ a b, RsSt m ρ K c 22 -∗ Q ⟨a, b⟩)) ⊢ WP c (onK (k0_part14 (F := F)) c w) Q := by
  simp only [k0_part14_eq_skeleton]; unfold k0_part14_skel
  simp only [semSignalWord, semWaitWord, Prog.lift, Prog.bind_op, Prog.bind_ret, Prog.pure_eq_ret, wp_deviceId]
  iintro ⟨H, Hk⟩
  iapply (st_rs m ρ K c (n := 19) (by decide) (Fin.ext (k0_dev51_eq c)) (k0_off1_eq c) (k0_off2_eq c) (k0_off3_eq c 19) rfl) $$ H; iintro H
  iapply (st_rs m ρ K c (n := 20) (by decide) (Fin.ext (k0_dev52_eq c)) (k0_off1_eq c) (k0_off2_eq c) (k0_off3_eq c 20) rfl) $$ H; iintro H
  iapply (st_rs m ρ K c (n := 21) (by decide) (Fin.ext (k0_dev53_eq c)) (k0_off1_eq c) (k0_off2_eq c) (k0_off3_eq c 21) rfl) $$ H; iintro H
  iapply (wp_done c)
  iapply Hk $$ H

theorem part15 (c : Dev nD) (w : BitVec 32) (w0 : BitVec 32) (w1 : BitVec 32) {Q : _ → sProp 𝕄} :
    iprop(RsSt m ρ K c 22 ∗ (∀ a, RsSt m ρ K c 25 -∗ Q a)) ⊢ WP c (onK (k0_part15 (F := F)) c w w0 w1) Q := by
  simp only [k0_part15_eq_skeleton]; unfold k0_part15_skel
  simp only [semSignalWord, semWaitWord, Prog.lift, Prog.bind_op, Prog.bind_ret, Prog.pure_eq_ret, wp_deviceId]
  iintro ⟨H, Hk⟩
  iapply (st_rs m ρ K c (n := 22) (by decide) (Fin.ext (k0_dev54_eq c)) (k0_off1_eq c) (k0_off2_eq c) (k0_off3_eq c 22) rfl) $$ H; iintro H
  iapply (st_rs m ρ K c (n := 23) (by decide) (Fin.ext (k0_dev55_eq c)) (k0_off1_eq c) (k0_off2_eq c) (k0_off3_eq c 23) rfl) $$ H; iintro H
  iapply (st_rs m ρ K c (n := 24) (by decide) (Fin.ext (k0_dev56_eq c)) (k0_off1_eq c) (k0_off2_eq c) (k0_off3_eq c 24) rfl) $$ H; iintro H
  iapply (wp_done c)
  iapply Hk $$ H

theorem part16 (c : Dev nD) (w : BitVec 32) (w0 : BitVec 32) {Q : _ → sProp 𝕄} :
    iprop(RsSt m ρ K c 25 ∗ (RsSt m ρ K c 27 -∗ Q ⟨⟩)) ⊢ WP c (onK (k0_part16 (F := F)) c w w0) Q := by
  simp only [k0_part16_eq_skeleton]; unfold k0_part16_skel
  simp only [semSignalWord, semWaitWord, Prog.lift, Prog.bind_op, Prog.bind_ret, Prog.pure_eq_ret, wp_deviceId]
  iintro ⟨H, Hk⟩
  iapply (st_rs m ρ K c (n := 25) (by decide) (Fin.ext (k0_dev57_eq c)) (k0_off1_eq c) (k0_off2_eq c) (k0_off3_eq c 25) rfl) $$ H; iintro H
  iapply (st_rs m ρ K c (n := 26) (by decide) (Fin.ext (k0_dev58_eq c)) (k0_off1_eq c) (k0_off2_eq c) (k0_off3_eq c 26) rfl) $$ H; iintro H
  iapply (wp_done c)
  iapply Hk $$ H

theorem part17 (c : Dev nD) (w : BitVec 32) {Q : _ → sProp 𝕄} :
    iprop(RsSt m ρ K c 27 ∗ (RsSt m ρ K c 30 -∗ Q ⟨⟩)) ⊢ WP c (onK (k0_part17 (F := F)) c w) Q := by
  simp only [k0_part17_eq_skeleton]; unfold k0_part17_skel
  simp only [semSignalWord, semWaitWord, Prog.lift, Prog.bind_op, Prog.bind_ret, Prog.pure_eq_ret, wp_deviceId]
  iintro ⟨H, Hk⟩
  iapply (st_rs m ρ K c (n := 27) (by decide) (Fin.ext (k0_dev59_eq c)) (k0_off1_eq c) (k0_off2_eq c) (k0_off3_eq c 27) rfl) $$ H; iintro H
  iapply (st_rs m ρ K c (n := 28) (by decide) (Fin.ext (k0_dev60_eq c)) (k0_off1_eq c) (k0_off2_eq c) (k0_off3_eq c 28) rfl) $$ H; iintro H
  iapply (st_rs m ρ K c (n := 29) (by decide) (Fin.ext (k0_dev61_eq c)) (k0_off1_eq c) (k0_off2_eq c) (k0_off3_eq c 29) rfl) $$ H; iintro H
  iapply (wp_done c)
  iapply Hk $$ H

end Cert.RunProof
end
end
-- ==== Proof.PartsB.lean ====
/-
The kernel's parts that receive the reduce-scatter's rows and add them up.
-/
module

public import proofs.«01_k».proof.Proof.Steps

@[expose] public section

noncomputable section

namespace Cert.RunProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

set_option maxRecDepth 8000

theorem part19 (c : Dev nD) (w : BitVec 32) {Q : _ → sProp 𝕄} :
    iprop(VSt m ρ K c 2 ∗ (∀ a b, VSt m ρ K c 4 -∗ Q ⟨ACC m ρ c 4, a, b⟩)) ⊢ WP c (onK (k0_part19 (F := F)) c w (ACC m ρ c 1)) Q := by
  simp only [k0_part19_eq_skeleton]; unfold k0_part19_skel
  simp only [semSignalWord, semWaitWord, Prog.lift, Prog.bind_op, Prog.bind_ret, Prog.pure_eq_ret, wp_deviceId]
  iintro ⟨H, Hk⟩
  iapply (st_ld m ρ K c (n := 1) (k0_off7_eq c 1)) $$ H; iintro H
  iapply (st_v m ρ K c (n := 2) (by decide) (k0_off5_eq c 2)) $$ H; iintro H
  iapply (st_ld m ρ K c (n := 2) (k0_off7_eq c 2)) $$ H; iintro H
  iapply (st_v m ρ K c (n := 3) (by decide) (k0_off5_eq c 3)) $$ H; iintro H
  iapply (st_ld m ρ K c (n := 3) (k0_off7_eq c 3)) $$ H; iintro H
  rw [show k0_pay4 (ACC m ρ c 1) (rsV m ρ c (pr c 1)) (rsV m ρ c (pr c 2)) (rsV m ρ c (pr c 3)) = ACC m ρ c 4 from rfl]
  iapply (wp_done c)
  iapply Hk $$ H

theorem part20 (c : Dev nD) (w w0 w1 : BitVec 32) {Q : _ → sProp 𝕄} :
    iprop(VSt m ρ K c 4 ∗ (∀ a, VSt m ρ K c 6 -∗ Q ⟨ACC m ρ c 6, a⟩)) ⊢ WP c (onK (k0_part20 (F := F)) c w (ACC m ρ c 4) w0 w1) Q := by
  simp only [k0_part20_eq_skeleton]; unfold k0_part20_skel
  simp only [semSignalWord, semWaitWord, Prog.lift, Prog.bind_op, Prog.bind_ret, Prog.pure_eq_ret, wp_deviceId]
  iintro ⟨H, Hk⟩
  iapply (st_v m ρ K c (n := 4) (by decide) (k0_off5_eq c 4)) $$ H; iintro H
  iapply (st_ld m ρ K c (n := 4) (k0_off7_eq c 4)) $$ H; iintro H
  iapply (st_v m ρ K c (n := 5) (by decide) (k0_off5_eq c 5)) $$ H; iintro H
  iapply (st_ld m ρ K c (n := 5) (k0_off7_eq c 5)) $$ H; iintro H
  rw [show k0_pay5 (ACC m ρ c 4) (rsV m ρ c (pr c 4)) (rsV m ρ c (pr c 5)) = ACC m ρ c 6 from rfl]
  iapply (wp_done c)
  iapply Hk $$ H

theorem part21 (c : Dev nD) (w w0 : BitVec 32) {Q : _ → sProp 𝕄} :
    iprop(VSt m ρ K c 6 ∗ (∀ a, VSt m ρ K c 9 -∗ Q ⟨ACC m ρ c 8, a⟩)) ⊢ WP c (onK (k0_part21 (F := F)) c w (ACC m ρ c 6) w0) Q := by
  simp only [k0_part21_eq_skeleton]; unfold k0_part21_skel
  simp only [semSignalWord, semWaitWord, Prog.lift, Prog.bind_op, Prog.bind_ret, Prog.pure_eq_ret, wp_deviceId]
  iintro ⟨H, Hk⟩
  iapply (st_v m ρ K c (n := 6) (by decide) (k0_off5_eq c 6)) $$ H; iintro H
  iapply (st_ld m ρ K c (n := 6) (k0_off7_eq c 6)) $$ H; iintro H
  iapply (st_v m ρ K c (n := 7) (by decide) (k0_off5_eq c 7)) $$ H; iintro H
  iapply (st_ld m ρ K c (n := 7) (k0_off7_eq c 7)) $$ H; iintro H
  iapply (st_v m ρ K c (n := 8) (by decide) (k0_off5_eq c 8)) $$ H; iintro H
  rw [show k0_pay6 (ACC m ρ c 6) (rsV m ρ c (pr c 6)) (rsV m ρ c (pr c 7)) = ACC m ρ c 8 from rfl]
  iapply (wp_done c)
  iapply Hk $$ H

theorem part22 (c : Dev nD) (w w0 : BitVec 32) {Q : _ → sProp 𝕄} :
    iprop(VSt m ρ K c 9 ∗ (∀ a, VSt m ρ K c 11 -∗ Q ⟨ACC m ρ c 11, a⟩)) ⊢ WP c (onK (k0_part22 (F := F)) c w (ACC m ρ c 8) w0) Q := by
  simp only [k0_part22_eq_skeleton]; unfold k0_part22_skel
  simp only [semSignalWord, semWaitWord, Prog.lift, Prog.bind_op, Prog.bind_ret, Prog.pure_eq_ret, wp_deviceId]
  iintro ⟨H, Hk⟩
  iapply (st_ld m ρ K c (n := 8) (k0_off7_eq c 8)) $$ H; iintro H
  iapply (st_v m ρ K c (n := 9) (by decide) (k0_off5_eq c 9)) $$ H; iintro H
  iapply (st_ld m ρ K c (n := 9) (k0_off7_eq c 9)) $$ H; iintro H
  iapply (st_v m ρ K c (n := 10) (by decide) (k0_off5_eq c 10)) $$ H; iintro H
  iapply (st_ld m ρ K c (n := 10) (k0_off7_eq c 10)) $$ H; iintro H
  rw [show k0_pay7 (ACC m ρ c 8) (rsV m ρ c (pr c 8)) (rsV m ρ c (pr c 9)) (rsV m ρ c (pr c 10)) = ACC m ρ c 11 from rfl]
  iapply (wp_done c)
  iapply Hk $$ H

theorem part23 (c : Dev nD) (w w0 : BitVec 32) {Q : _ → sProp 𝕄} :
    iprop(VSt m ρ K c 11 ∗ (∀ a, VSt m ρ K c 13 -∗ Q ⟨ACC m ρ c 13, a⟩)) ⊢ WP c (onK (k0_part23 (F := F)) c w (ACC m ρ c 11) w0) Q := by
  simp only [k0_part23_eq_skeleton]; unfold k0_part23_skel
  simp only [semSignalWord, semWaitWord, Prog.lift, Prog.bind_op, Prog.bind_ret, Prog.pure_eq_ret, wp_deviceId]
  iintro ⟨H, Hk⟩
  iapply (st_v m ρ K c (n := 11) (by decide) (k0_off5_eq c 11)) $$ H; iintro H
  iapply (st_ld m ρ K c (n := 11) (k0_off7_eq c 11)) $$ H; iintro H
  iapply (st_v m ρ K c (n := 12) (by decide) (k0_off5_eq c 12)) $$ H; iintro H
  iapply (st_ld m ρ K c (n := 12) (k0_off7_eq c 12)) $$ H; iintro H
  rw [show k0_pay8 (ACC m ρ c 11) (rsV m ρ c (pr c 11)) (rsV m ρ c (pr c 12)) = ACC m ρ c 13 from rfl]
  iapply (wp_done c)
  iapply Hk $$ H

theorem part24 (c : Dev nD) (w w0 : BitVec 32) {Q : _ → sProp 𝕄} :
    iprop(VSt m ρ K c 13 ∗ (∀ a, VSt m ρ K c 15 -∗ Q ⟨ACC m ρ c 15, a⟩)) ⊢ WP c (onK (k0_part24 (F := F)) c w (ACC m ρ c 13) w0) Q := by
  simp only [k0_part24_eq_skeleton]; unfold k0_part24_skel
  simp only [semSignalWord, semWaitWord, Prog.lift, Prog.bind_op, Prog.bind_ret, Prog.pure_eq_ret, wp_deviceId]
  iintro ⟨H, Hk⟩
  iapply (st_v m ρ K c (n := 13) (by decide) (k0_off5_eq c 13)) $$ H; iintro H
  iapply (st_ld m ρ K c (n := 13) (k0_off7_eq c 13)) $$ H; iintro H
  iapply (st_v m ρ K c (n := 14) (by decide) (k0_off5_eq c 14)) $$ H; iintro H
  iapply (st_ld m ρ K c (n := 14) (k0_off7_eq c 14)) $$ H; iintro H
  rw [show k0_pay9 (ACC m ρ c 13) (rsV m ρ c (pr c 13)) (rsV m ρ c (pr c 14)) = ACC m ρ c 15 from rfl]
  iapply (wp_done c)
  iapply Hk $$ H

theorem part25 (c : Dev nD) (w w0 : BitVec 32) {Q : _ → sProp 𝕄} :
    iprop(VSt m ρ K c 15 ∗ (VSt m ρ K c 18 -∗ Q ⟨ACC m ρ c 17, k0_pay11 (rsV m ρ c (pr c 17))⟩)) ⊢ WP c (onK (k0_part25 (F := F)) c w (ACC m ρ c 15) w0) Q := by
  simp only [k0_part25_eq_skeleton]; unfold k0_part25_skel
  simp only [semSignalWord, semWaitWord, Prog.lift, Prog.bind_op, Prog.bind_ret, Prog.pure_eq_ret, wp_deviceId]
  iintro ⟨H, Hk⟩
  iapply (st_v m ρ K c (n := 15) (by decide) (k0_off5_eq c 15)) $$ H; iintro H
  iapply (st_ld m ρ K c (n := 15) (k0_off7_eq c 15)) $$ H; iintro H
  iapply (st_v m ρ K c (n := 16) (by decide) (k0_off5_eq c 16)) $$ H; iintro H
  iapply (st_ld m ρ K c (n := 16) (k0_off7_eq c 16)) $$ H; iintro H
  iapply (st_v m ρ K c (n := 17) (by decide) (k0_off5_eq c 17)) $$ H; iintro H
  iapply (st_ld m ρ K c (n := 17) (k0_off7_eq c 17)) $$ H; iintro H
  rw [show k0_pay10 (ACC m ρ c 15) (rsV m ρ c (pr c 15)) (rsV m ρ c (pr c 16)) = ACC m ρ c 17 from rfl]
  iapply (wp_done c)
  iapply Hk $$ H

theorem part26 (c : Dev nD) (w : BitVec 32) {Q : _ → sProp 𝕄} :
    iprop(VSt m ρ K c 18 ∗ (∀ a b, VSt m ρ K c 20 -∗ Q ⟨ACC m ρ c 20, a, b⟩)) ⊢ WP c (onK (k0_part26 (F := F)) c w (ACC m ρ c 17) (k0_pay11 (rsV m ρ c (pr c 17)))) Q := by
  simp only [k0_part26_eq_skeleton]; unfold k0_part26_skel
  simp only [semSignalWord, semWaitWord, Prog.lift, Prog.bind_op, Prog.bind_ret, Prog.pure_eq_ret, wp_deviceId]
  iintro ⟨H, Hk⟩
  iapply (st_v m ρ K c (n := 18) (by decide) (k0_off5_eq c 18)) $$ H; iintro H
  iapply (st_ld m ρ K c (n := 18) (k0_off7_eq c 18)) $$ H; iintro H
  iapply (st_v m ρ K c (n := 19) (by decide) (k0_off5_eq c 19)) $$ H; iintro H
  iapply (st_ld m ρ K c (n := 19) (k0_off7_eq c 19)) $$ H; iintro H
  rw [show k0_pay12 (ACC m ρ c 17) (k0_pay11 (rsV m ρ c (pr c 17))) (rsV m ρ c (pr c 18)) (rsV m ρ c (pr c 19)) = ACC m ρ c 20 from rfl]
  iapply (wp_done c)
  iapply Hk $$ H

theorem part27 (c : Dev nD) (w w0 w1 : BitVec 32) {Q : _ → sProp 𝕄} :
    iprop(VSt m ρ K c 20 ∗ (∀ a, VSt m ρ K c 22 -∗ Q ⟨ACC m ρ c 22, a⟩)) ⊢ WP c (onK (k0_part27 (F := F)) c w (ACC m ρ c 20) w0 w1) Q := by
  simp only [k0_part27_eq_skeleton]; unfold k0_part27_skel
  simp only [semSignalWord, semWaitWord, Prog.lift, Prog.bind_op, Prog.bind_ret, Prog.pure_eq_ret, wp_deviceId]
  iintro ⟨H, Hk⟩
  iapply (st_v m ρ K c (n := 20) (by decide) (k0_off5_eq c 20)) $$ H; iintro H
  iapply (st_ld m ρ K c (n := 20) (k0_off7_eq c 20)) $$ H; iintro H
  iapply (st_v m ρ K c (n := 21) (by decide) (k0_off5_eq c 21)) $$ H; iintro H
  iapply (st_ld m ρ K c (n := 21) (k0_off7_eq c 21)) $$ H; iintro H
  rw [show k0_pay13 (ACC m ρ c 20) (rsV m ρ c (pr c 20)) (rsV m ρ c (pr c 21)) = ACC m ρ c 22 from rfl]
  iapply (wp_done c)
  iapply Hk $$ H

theorem part28 (c : Dev nD) (w w0 : BitVec 32) {Q : _ → sProp 𝕄} :
    iprop(VSt m ρ K c 22 ∗ (VSt m ρ K c 25 -∗ Q ⟨ACC m ρ c 24, rsV m ρ c (pr c 24)⟩)) ⊢ WP c (onK (k0_part28 (F := F)) c w (ACC m ρ c 22) w0) Q := by
  simp only [k0_part28_eq_skeleton]; unfold k0_part28_skel
  simp only [semSignalWord, semWaitWord, Prog.lift, Prog.bind_op, Prog.bind_ret, Prog.pure_eq_ret, wp_deviceId]
  iintro ⟨H, Hk⟩
  iapply (st_v m ρ K c (n := 22) (by decide) (k0_off5_eq c 22)) $$ H; iintro H
  iapply (st_ld m ρ K c (n := 22) (k0_off7_eq c 22)) $$ H; iintro H
  iapply (st_v m ρ K c (n := 23) (by decide) (k0_off5_eq c 23)) $$ H; iintro H
  iapply (st_ld m ρ K c (n := 23) (k0_off7_eq c 23)) $$ H; iintro H
  iapply (st_v m ρ K c (n := 24) (by decide) (k0_off5_eq c 24)) $$ H; iintro H
  iapply (st_ld m ρ K c (n := 24) (k0_off7_eq c 24)) $$ H; iintro H
  rw [show k0_pay14 (ACC m ρ c 22) (rsV m ρ c (pr c 22)) (rsV m ρ c (pr c 23)) = ACC m ρ c 24 from rfl]
  iapply (wp_done c)
  iapply Hk $$ H

theorem part29 (c : Dev nD) (w : BitVec 32) {Q : _ → sProp 𝕄} :
    iprop(VSt m ρ K c 25 ∗ (∀ a, VSt m ρ K c 27 -∗ Q ⟨ACC m ρ c 27, a⟩)) ⊢ WP c (onK (k0_part29 (F := F)) c w (ACC m ρ c 24) (rsV m ρ c (pr c 24))) Q := by
  simp only [k0_part29_eq_skeleton]; unfold k0_part29_skel
  simp only [semSignalWord, semWaitWord, Prog.lift, Prog.bind_op, Prog.bind_ret, Prog.pure_eq_ret, wp_deviceId]
  iintro ⟨H, Hk⟩
  iapply (st_v m ρ K c (n := 25) (by decide) (k0_off5_eq c 25)) $$ H; iintro H
  iapply (st_ld m ρ K c (n := 25) (k0_off7_eq c 25)) $$ H; iintro H
  iapply (st_v m ρ K c (n := 26) (by decide) (k0_off5_eq c 26)) $$ H; iintro H
  iapply (st_ld m ρ K c (n := 26) (k0_off7_eq c 26)) $$ H; iintro H
  rw [show k0_pay15 (ACC m ρ c 24) (rsV m ρ c (pr c 24)) (rsV m ρ c (pr c 25)) (rsV m ρ c (pr c 26)) = ACC m ρ c 27 from rfl]
  iapply (wp_done c)
  iapply Hk $$ H

theorem part30 (c : Dev nD) (w w0 : BitVec 32) {Q : _ → sProp 𝕄} :
    iprop(VSt m ρ K c 27 ∗ (∀ a, VSt m ρ K c 29 -∗ Q ⟨ACC m ρ c 29, a⟩)) ⊢ WP c (onK (k0_part30 (F := F)) c w (ACC m ρ c 27) w0) Q := by
  simp only [k0_part30_eq_skeleton]; unfold k0_part30_skel
  simp only [semSignalWord, semWaitWord, Prog.lift, Prog.bind_op, Prog.bind_ret, Prog.pure_eq_ret, wp_deviceId]
  iintro ⟨H, Hk⟩
  iapply (st_v m ρ K c (n := 27) (by decide) (k0_off5_eq c 27)) $$ H; iintro H
  iapply (st_ld m ρ K c (n := 27) (k0_off7_eq c 27)) $$ H; iintro H
  iapply (st_v m ρ K c (n := 28) (by decide) (k0_off5_eq c 28)) $$ H; iintro H
  iapply (st_ld m ρ K c (n := 28) (k0_off7_eq c 28)) $$ H; iintro H
  rw [show k0_pay16 (ACC m ρ c 27) (rsV m ρ c (pr c 27)) (rsV m ρ c (pr c 28)) = ACC m ρ c 29 from rfl]
  iapply (wp_done c)
  iapply Hk $$ H

end Cert.RunProof
end
end
-- ==== Proof.PartsC.lean ====
/-
The kernel's parts that only start all-gather transfers, and those that only wait for the peers' ones.
-/
module

public import proofs.«01_k».proof.Proof.Steps

@[expose] public section

noncomputable section

namespace Cert.RunProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

set_option maxRecDepth 8000

theorem part32 (c : Dev nD) (w : BitVec 32) {Q : _ → sProp 𝕄} :
    iprop(ASt m ρ K c 0 ∗ (∀ a, ASt m ρ K c 4 -∗ Q a)) ⊢ WP c (onK (k0_part32 (F := F)) c w) Q := by
  simp only [k0_part32_eq_skeleton]; unfold k0_part32_skel
  simp only [semSignalWord, semWaitWord, Prog.lift, Prog.bind_op, Prog.bind_ret, Prog.pure_eq_ret, wp_deviceId]
  iintro ⟨H, Hk⟩
  iapply (st_ag m ρ K c (n := 0) (by decide) (Fin.ext (k0_dev63_eq c)) (k0_off1_eq c) (k0_off2_eq c) rfl) $$ H; iintro H
  iapply (st_ag m ρ K c (n := 1) (by decide) (Fin.ext (k0_dev64_eq c)) (k0_off1_eq c) (k0_off2_eq c) rfl) $$ H; iintro H
  iapply (st_ag m ρ K c (n := 2) (by decide) (Fin.ext (k0_dev65_eq c)) (k0_off1_eq c) (k0_off2_eq c) rfl) $$ H; iintro H
  iapply (st_ag m ρ K c (n := 3) (by decide) (Fin.ext (k0_dev66_eq c)) (k0_off1_eq c) (k0_off2_eq c) rfl) $$ H; iintro H
  iapply (wp_done c)
  iapply Hk $$ H

theorem part33 (c : Dev nD) (w : BitVec 32) (w0 : BitVec 32) {Q : _ → sProp 𝕄} :
    iprop(ASt m ρ K c 4 ∗ (∀ a b, ASt m ρ K c 7 -∗ Q ⟨a, b⟩)) ⊢ WP c (onK (k0_part33 (F := F)) c w w0) Q := by
  simp only [k0_part33_eq_skeleton]; unfold k0_part33_skel
  simp only [semSignalWord, semWaitWord, Prog.lift, Prog.bind_op, Prog.bind_ret, Prog.pure_eq_ret, wp_deviceId]
  iintro ⟨H, Hk⟩
  iapply (st_ag m ρ K c (n := 4) (by decide) (Fin.ext (k0_dev67_eq c)) (k0_off1_eq c) (k0_off2_eq c) rfl) $$ H; iintro H
  iapply (st_ag m ρ K c (n := 5) (by decide) (Fin.ext (k0_dev68_eq c)) (k0_off1_eq c) (k0_off2_eq c) rfl) $$ H; iintro H
  iapply (st_ag m ρ K c (n := 6) (by decide) (Fin.ext (k0_dev69_eq c)) (k0_off1_eq c) (k0_off2_eq c) rfl) $$ H; iintro H
  iapply (wp_done c)
  iapply Hk $$ H

theorem part34 (c : Dev nD) (w : BitVec 32) (w0 : BitVec 32) (w1 : BitVec 32) {Q : _ → sProp 𝕄} :
    iprop(ASt m ρ K c 7 ∗ (ASt m ρ K c 10 -∗ Q ⟨⟩)) ⊢ WP c (onK (k0_part34 (F := F)) c w w0 w1) Q := by
  simp only [k0_part34_eq_skeleton]; unfold k0_part34_skel
  simp only [semSignalWord, semWaitWord, Prog.lift, Prog.bind_op, Prog.bind_ret, Prog.pure_eq_ret, wp_deviceId]
  iintro ⟨H, Hk⟩
  iapply (st_ag m ρ K c (n := 7) (by decide) (Fin.ext (k0_dev70_eq c)) (k0_off1_eq c) (k0_off2_eq c) rfl) $$ H; iintro H
  iapply (st_ag m ρ K c (n := 8) (by decide) (Fin.ext (k0_dev71_eq c)) (k0_off1_eq c) (k0_off2_eq c) rfl) $$ H; iintro H
  iapply (st_ag m ρ K c (n := 9) (by decide) (Fin.ext (k0_dev72_eq c)) (k0_off1_eq c) (k0_off2_eq c) rfl) $$ H; iintro H
  iapply (wp_done c)
  iapply Hk $$ H

theorem part35 (c : Dev nD) (w : BitVec 32) {Q : _ → sProp 𝕄} :
    iprop(ASt m ρ K c 10 ∗ (∀ a, ASt m ρ K c 14 -∗ Q a)) ⊢ WP c (onK (k0_part35 (F := F)) c w) Q := by
  simp only [k0_part35_eq_skeleton]; unfold k0_part35_skel
  simp only [semSignalWord, semWaitWord, Prog.lift, Prog.bind_op, Prog.bind_ret, Prog.pure_eq_ret, wp_deviceId]
  iintro ⟨H, Hk⟩
  iapply (st_ag m ρ K c (n := 10) (by decide) (Fin.ext (k0_dev73_eq c)) (k0_off1_eq c) (k0_off2_eq c) rfl) $$ H; iintro H
  iapply (st_ag m ρ K c (n := 11) (by decide) (Fin.ext (k0_dev74_eq c)) (k0_off1_eq c) (k0_off2_eq c) rfl) $$ H; iintro H
  iapply (st_ag m ρ K c (n := 12) (by decide) (Fin.ext (k0_dev75_eq c)) (k0_off1_eq c) (k0_off2_eq c) rfl) $$ H; iintro H
  iapply (st_ag m ρ K c (n := 13) (by decide) (Fin.ext (k0_dev76_eq c)) (k0_off1_eq c) (k0_off2_eq c) rfl) $$ H; iintro H
  iapply (wp_done c)
  iapply Hk $$ H

theorem part36 (c : Dev nD) (w : BitVec 32) (w0 : BitVec 32) {Q : _ → sProp 𝕄} :
    iprop(ASt m ρ K c 14 ∗ (∀ a b, ASt m ρ K c 17 -∗ Q ⟨a, b⟩)) ⊢ WP c (onK (k0_part36 (F := F)) c w w0) Q := by
  simp only [k0_part36_eq_skeleton]; unfold k0_part36_skel
  simp only [semSignalWord, semWaitWord, Prog.lift, Prog.bind_op, Prog.bind_ret, Prog.pure_eq_ret, wp_deviceId]
  iintro ⟨H, Hk⟩
  iapply (st_ag m ρ K c (n := 14) (by decide) (Fin.ext (k0_dev77_eq c)) (k0_off1_eq c) (k0_off2_eq c) rfl) $$ H; iintro H
  iapply (st_ag m ρ K c (n := 15) (by decide) (Fin.ext (k0_dev78_eq c)) (k0_off1_eq c) (k0_off2_eq c) rfl) $$ H; iintro H
  iapply (st_ag m ρ K c (n := 16) (by decide) (Fin.ext (k0_dev79_eq c)) (k0_off1_eq c) (k0_off2_eq c) rfl) $$ H; iintro H
  iapply (wp_done c)
  iapply Hk $$ H

theorem part37 (c : Dev nD) (w : BitVec 32) (w0 : BitVec 32) (w1 : BitVec 32) {Q : _ → sProp 𝕄} :
    iprop(ASt m ρ K c 17 ∗ (ASt m ρ K c 20 -∗ Q ⟨⟩)) ⊢ WP c (onK (k0_part37 (F := F)) c w w0 w1) Q := by
  simp only [k0_part37_eq_skeleton]; unfold k0_part37_skel
  simp only [semSignalWord, semWaitWord, Prog.lift, Prog.bind_op, Prog.bind_ret, Prog.pure_eq_ret, wp_deviceId]
  iintro ⟨H, Hk⟩
  iapply (st_ag m ρ K c (n := 17) (by decide) (Fin.ext (k0_dev80_eq c)) (k0_off1_eq c) (k0_off2_eq c) rfl) $$ H; iintro H
  iapply (st_ag m ρ K c (n := 18) (by decide) (Fin.ext (k0_dev81_eq c)) (k0_off1_eq c) (k0_off2_eq c) rfl) $$ H; iintro H
  iapply (st_ag m ρ K c (n := 19) (by decide) (Fin.ext (k0_dev82_eq c)) (k0_off1_eq c) (k0_off2_eq c) rfl) $$ H; iintro H
  iapply (wp_done c)
  iapply Hk $$ H

theorem part38 (c : Dev nD) (w : BitVec 32) {Q : _ → sProp 𝕄} :
    iprop(ASt m ρ K c 20 ∗ (∀ a, ASt m ρ K c 24 -∗ Q a)) ⊢ WP c (onK (k0_part38 (F := F)) c w) Q := by
  simp only [k0_part38_eq_skeleton]; unfold k0_part38_skel
  simp only [semSignalWord, semWaitWord, Prog.lift, Prog.bind_op, Prog.bind_ret, Prog.pure_eq_ret, wp_deviceId]
  iintro ⟨H, Hk⟩
  iapply (st_ag m ρ K c (n := 20) (by decide) (Fin.ext (k0_dev83_eq c)) (k0_off1_eq c) (k0_off2_eq c) rfl) $$ H; iintro H
  iapply (st_ag m ρ K c (n := 21) (by decide) (Fin.ext (k0_dev84_eq c)) (k0_off1_eq c) (k0_off2_eq c) rfl) $$ H; iintro H
  iapply (st_ag m ρ K c (n := 22) (by decide) (Fin.ext (k0_dev85_eq c)) (k0_off1_eq c) (k0_off2_eq c) rfl) $$ H; iintro H
  iapply (st_ag m ρ K c (n := 23) (by decide) (Fin.ext (k0_dev86_eq c)) (k0_off1_eq c) (k0_off2_eq c) rfl) $$ H; iintro H
  iapply (wp_done c)
  iapply Hk $$ H

theorem part39 (c : Dev nD) (w : BitVec 32) (w0 : BitVec 32) {Q : _ → sProp 𝕄} :
    iprop(ASt m ρ K c 24 ∗ (∀ a b, ASt m ρ K c 27 -∗ Q ⟨a, b⟩)) ⊢ WP c (onK (k0_part39 (F := F)) c w w0) Q := by
  simp only [k0_part39_eq_skeleton]; unfold k0_part39_skel
  simp only [semSignalWord, semWaitWord, Prog.lift, Prog.bind_op, Prog.bind_ret, Prog.pure_eq_ret, wp_deviceId]
  iintro ⟨H, Hk⟩
  iapply (st_ag m ρ K c (n := 24) (by decide) (Fin.ext (k0_dev87_eq c)) (k0_off1_eq c) (k0_off2_eq c) rfl) $$ H; iintro H
  iapply (st_ag m ρ K c (n := 25) (by decide) (Fin.ext (k0_dev88_eq c)) (k0_off1_eq c) (k0_off2_eq c) rfl) $$ H; iintro H
  iapply (st_ag m ρ K c (n := 26) (by decide) (Fin.ext (k0_dev89_eq c)) (k0_off1_eq c) (k0_off2_eq c) rfl) $$ H; iintro H
  iapply (wp_done c)
  iapply Hk $$ H

theorem part40 (c : Dev nD) (w : BitVec 32) (w0 : BitVec 32) (w1 : BitVec 32) {Q : _ → sProp 𝕄} :
    iprop(ASt m ρ K c 27 ∗ (ASt m ρ K c 30 -∗ Q ⟨⟩)) ⊢ WP c (onK (k0_part40 (F := F)) c w w0 w1) Q := by
  simp only [k0_part40_eq_skeleton]; unfold k0_part40_skel
  simp only [semSignalWord, semWaitWord, Prog.lift, Prog.bind_op, Prog.bind_ret, Prog.pure_eq_ret, wp_deviceId]
  iintro ⟨H, Hk⟩
  iapply (st_ag m ρ K c (n := 27) (by decide) (Fin.ext (k0_dev90_eq c)) (k0_off1_eq c) (k0_off2_eq c) rfl) $$ H; iintro H
  iapply (st_ag m ρ K c (n := 28) (by decide) (Fin.ext (k0_dev91_eq c)) (k0_off1_eq c) (k0_off2_eq c) rfl) $$ H; iintro H
  iapply (st_ag m ρ K c (n := 29) (by decide) (Fin.ext (k0_dev92_eq c)) (k0_off1_eq c) (k0_off2_eq c) rfl) $$ H; iintro H
  iapply (wp_done c)
  iapply Hk $$ H

theorem part42 (c : Dev nD) (w : BitVec 32) {Q : _ → sProp 𝕄} :
    iprop(AVSt m ρ K c 2 ∗ (AVSt m ρ K c 6 -∗ Q ⟨⟩)) ⊢ WP c (onK (k0_part42 (F := F)) c w) Q := by
  simp only [k0_part42_eq_skeleton]; unfold k0_part42_skel
  simp only [semSignalWord, semWaitWord, Prog.lift, Prog.bind_op, Prog.bind_ret, Prog.pure_eq_ret, wp_deviceId]
  iintro ⟨H, Hk⟩
  iapply (st_av m ρ K c (n := 2) (by decide) (k0_off5_eq c 2)) $$ H; iintro H
  iapply (st_av m ρ K c (n := 3) (by decide) (k0_off5_eq c 3)) $$ H; iintro H
  iapply (st_av m ρ K c (n := 4) (by decide) (k0_off5_eq c 4)) $$ H; iintro H
  iapply (st_av m ρ K c (n := 5) (by decide) (k0_off5_eq c 5)) $$ H; iintro H
  iapply (wp_done c)
  iapply Hk $$ H

theorem part43 (c : Dev nD) (w : BitVec 32) {Q : _ → sProp 𝕄} :
    iprop(AVSt m ρ K c 6 ∗ (∀ a b, AVSt m ρ K c 10 -∗ Q ⟨a, b⟩)) ⊢ WP c (onK (k0_part43 (F := F)) c w) Q := by
  simp only [k0_part43_eq_skeleton]; unfold k0_part43_skel
  simp only [semSignalWord, semWaitWord, Prog.lift, Prog.bind_op, Prog.bind_ret, Prog.pure_eq_ret, wp_deviceId]
  iintro ⟨H, Hk⟩
  iapply (st_av m ρ K c (n := 6) (by decide) (k0_off5_eq c 6)) $$ H; iintro H
  iapply (st_av m ρ K c (n := 7) (by decide) (k0_off5_eq c 7)) $$ H; iintro H
  iapply (st_av m ρ K c (n := 8) (by decide) (k0_off5_eq c 8)) $$ H; iintro H
  iapply (st_av m ρ K c (n := 9) (by decide) (k0_off5_eq c 9)) $$ H; iintro H
  iapply (wp_done c)
  iapply Hk $$ H

theorem part44 (c : Dev nD) (w : BitVec 32) (w0 : BitVec 32) (w1 : BitVec 32) {Q : _ → sProp 𝕄} :
    iprop(AVSt m ρ K c 10 ∗ (∀ a, AVSt m ρ K c 14 -∗ Q a)) ⊢ WP c (onK (k0_part44 (F := F)) c w w0 w1) Q := by
  simp only [k0_part44_eq_skeleton]; unfold k0_part44_skel
  simp only [semSignalWord, semWaitWord, Prog.lift, Prog.bind_op, Prog.bind_ret, Prog.pure_eq_ret, wp_deviceId]
  iintro ⟨H, Hk⟩
  iapply (st_av m ρ K c (n := 10) (by decide) (k0_off5_eq c 10)) $$ H; iintro H
  iapply (st_av m ρ K c (n := 11) (by decide) (k0_off5_eq c 11)) $$ H; iintro H
  iapply (st_av m ρ K c (n := 12) (by decide) (k0_off5_eq c 12)) $$ H; iintro H
  iapply (st_av m ρ K c (n := 13) (by decide) (k0_off5_eq c 13)) $$ H; iintro H
  iapply (wp_done c)
  iapply Hk $$ H

theorem part45 (c : Dev nD) (w : BitVec 32) (w0 : BitVec 32) {Q : _ → sProp 𝕄} :
    iprop(AVSt m ρ K c 14 ∗ (AVSt m ρ K c 17 -∗ Q ⟨⟩)) ⊢ WP c (onK (k0_part45 (F := F)) c w w0) Q := by
  simp only [k0_part45_eq_skeleton]; unfold k0_part45_skel
  simp only [semSignalWord, semWaitWord, Prog.lift, Prog.bind_op, Prog.bind_ret, Prog.pure_eq_ret, wp_deviceId]
  iintro ⟨H, Hk⟩
  iapply (st_av m ρ K c (n := 14) (by decide) (k0_off5_eq c 14)) $$ H; iintro H
  iapply (st_av m ρ K c (n := 15) (by decide) (k0_off5_eq c 15)) $$ H; iintro H
  iapply (st_av m ρ K c (n := 16) (by decide) (k0_off5_eq c 16)) $$ H; iintro H
  iapply (wp_done c)
  iapply Hk $$ H

theorem part46 (c : Dev nD) (w : BitVec 32) {Q : _ → sProp 𝕄} :
    iprop(AVSt m ρ K c 17 ∗ (AVSt m ρ K c 21 -∗ Q ⟨⟩)) ⊢ WP c (onK (k0_part46 (F := F)) c w) Q := by
  simp only [k0_part46_eq_skeleton]; unfold k0_part46_skel
  simp only [semSignalWord, semWaitWord, Prog.lift, Prog.bind_op, Prog.bind_ret, Prog.pure_eq_ret, wp_deviceId]
  iintro ⟨H, Hk⟩
  iapply (st_av m ρ K c (n := 17) (by decide) (k0_off5_eq c 17)) $$ H; iintro H
  iapply (st_av m ρ K c (n := 18) (by decide) (k0_off5_eq c 18)) $$ H; iintro H
  iapply (st_av m ρ K c (n := 19) (by decide) (k0_off5_eq c 19)) $$ H; iintro H
  iapply (st_av m ρ K c (n := 20) (by decide) (k0_off5_eq c 20)) $$ H; iintro H
  iapply (wp_done c)
  iapply Hk $$ H

theorem part47 (c : Dev nD) (w : BitVec 32) {Q : _ → sProp 𝕄} :
    iprop(AVSt m ρ K c 21 ∗ (∀ a b, AVSt m ρ K c 25 -∗ Q ⟨a, b⟩)) ⊢ WP c (onK (k0_part47 (F := F)) c w) Q := by
  simp only [k0_part47_eq_skeleton]; unfold k0_part47_skel
  simp only [semSignalWord, semWaitWord, Prog.lift, Prog.bind_op, Prog.bind_ret, Prog.pure_eq_ret, wp_deviceId]
  iintro ⟨H, Hk⟩
  iapply (st_av m ρ K c (n := 21) (by decide) (k0_off5_eq c 21)) $$ H; iintro H
  iapply (st_av m ρ K c (n := 22) (by decide) (k0_off5_eq c 22)) $$ H; iintro H
  iapply (st_av m ρ K c (n := 23) (by decide) (k0_off5_eq c 23)) $$ H; iintro H
  iapply (st_av m ρ K c (n := 24) (by decide) (k0_off5_eq c 24)) $$ H; iintro H
  iapply (wp_done c)
  iapply Hk $$ H

theorem part48 (c : Dev nD) (w : BitVec 32) (w0 : BitVec 32) (w1 : BitVec 32) {Q : _ → sProp 𝕄} :
    iprop(AVSt m ρ K c 25 ∗ (∀ a, AVSt m ρ K c 29 -∗ Q a)) ⊢ WP c (onK (k0_part48 (F := F)) c w w0 w1) Q := by
  simp only [k0_part48_eq_skeleton]; unfold k0_part48_skel
  simp only [semSignalWord, semWaitWord, Prog.lift, Prog.bind_op, Prog.bind_ret, Prog.pure_eq_ret, wp_deviceId]
  iintro ⟨H, Hk⟩
  iapply (st_av m ρ K c (n := 25) (by decide) (k0_off5_eq c 25)) $$ H; iintro H
  iapply (st_av m ρ K c (n := 26) (by decide) (k0_off5_eq c 26)) $$ H; iintro H
  iapply (st_av m ρ K c (n := 27) (by decide) (k0_off5_eq c 27)) $$ H; iintro H
  iapply (st_av m ρ K c (n := 28) (by decide) (k0_off5_eq c 28)) $$ H; iintro H
  iapply (wp_done c)
  iapply Hk $$ H

end Cert.RunProof
end
end
-- ==== Proof.PartsD.lean ====
/-
The kernel's parts that only wait for the own transfers to have left.
-/
module

public import proofs.«01_k».proof.Proof.Steps

@[expose] public section

noncomputable section

namespace Cert.RunProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

set_option maxRecDepth 8000

theorem part50 (c : Dev nD) {Q : _ → sProp 𝕄} :
    iprop(SSt m ρ K c 1 ∗ (SSt m ρ K c 6 -∗ Q ⟨⟩)) ⊢ WP c (onK (k0_part50 (F := F)) c) Q := by
  simp only [k0_part50_eq_skeleton]; unfold k0_part50_skel
  simp only [semSignalWord, semWaitWord, Prog.lift, Prog.bind_op, Prog.bind_ret, Prog.pure_eq_ret, wp_deviceId]
  iintro ⟨H, Hk⟩
  iapply (st_s m ρ K c (n := 1) (by decide) rfl) $$ H; iintro H
  iapply (st_s m ρ K c (n := 2) (by decide) rfl) $$ H; iintro H
  iapply (st_s m ρ K c (n := 3) (by decide) rfl) $$ H; iintro H
  iapply (st_s m ρ K c (n := 4) (by decide) rfl) $$ H; iintro H
  iapply (st_s m ρ K c (n := 5) (by decide) rfl) $$ H; iintro H
  iapply (wp_done c)
  iapply Hk $$ H

theorem part51 (c : Dev nD) {Q : _ → sProp 𝕄} :
    iprop(SSt m ρ K c 6 ∗ (SSt m ρ K c 12 -∗ Q ⟨⟩)) ⊢ WP c (onK (k0_part51 (F := F)) c) Q := by
  simp only [k0_part51_eq_skeleton]; unfold k0_part51_skel
  simp only [semSignalWord, semWaitWord, Prog.lift, Prog.bind_op, Prog.bind_ret, Prog.pure_eq_ret, wp_deviceId]
  iintro ⟨H, Hk⟩
  iapply (st_s m ρ K c (n := 6) (by decide) rfl) $$ H; iintro H
  iapply (st_s m ρ K c (n := 7) (by decide) rfl) $$ H; iintro H
  iapply (st_s m ρ K c (n := 8) (by decide) rfl) $$ H; iintro H
  iapply (st_s m ρ K c (n := 9) (by decide) rfl) $$ H; iintro H
  iapply (st_s m ρ K c (n := 10) (by decide) rfl) $$ H; iintro H
  iapply (st_s m ρ K c (n := 11) (by decide) rfl) $$ H; iintro H
  iapply (wp_done c)
  iapply Hk $$ H

theorem part52 (c : Dev nD) {Q : _ → sProp 𝕄} :
    iprop(SSt m ρ K c 12 ∗ (SSt m ρ K c 17 -∗ Q ⟨⟩)) ⊢ WP c (onK (k0_part52 (F := F)) c) Q := by
  simp only [k0_part52_eq_skeleton]; unfold k0_part52_skel
  simp only [semSignalWord, semWaitWord, Prog.lift, Prog.bind_op, Prog.bind_ret, Prog.pure_eq_ret, wp_deviceId]
  iintro ⟨H, Hk⟩
  iapply (st_s m ρ K c (n := 12) (by decide) rfl) $$ H; iintro H
  iapply (st_s m ρ K c (n := 13) (by decide) rfl) $$ H; iintro H
  iapply (st_s m ρ K c (n := 14) (by decide) rfl) $$ H; iintro H
  iapply (st_s m ρ K c (n := 15) (by decide) rfl) $$ H; iintro H
  iapply (st_s m ρ K c (n := 16) (by decide) rfl) $$ H; iintro H
  iapply (wp_done c)
  iapply Hk $$ H

theorem part53 (c : Dev nD) {Q : _ → sProp 𝕄} :
    iprop(SSt m ρ K c 17 ∗ (SSt m ρ K c 22 -∗ Q ⟨⟩)) ⊢ WP c (onK (k0_part53 (F := F)) c) Q := by
  simp only [k0_part53_eq_skeleton]; unfold k0_part53_skel
  simp only [semSignalWord, semWaitWord, Prog.lift, Prog.bind_op, Prog.bind_ret, Prog.pure_eq_ret, wp_deviceId]
  iintro ⟨H, Hk⟩
  iapply (st_s m ρ K c (n := 17) (by decide) rfl) $$ H; iintro H
  iapply (st_s m ρ K c (n := 18) (by decide) rfl) $$ H; iintro H
  iapply (st_s m ρ K c (n := 19) (by decide) rfl) $$ H; iintro H
  iapply (st_s m ρ K c (n := 20) (by decide) rfl) $$ H; iintro H
  iapply (st_s m ρ K c (n := 21) (by decide) rfl) $$ H; iintro H
  iapply (wp_done c)
  iapply Hk $$ H

theorem part54 (c : Dev nD) {Q : _ → sProp 𝕄} :
    iprop(SSt m ρ K c 22 ∗ (SSt m ρ K c 28 -∗ Q ⟨⟩)) ⊢ WP c (onK (k0_part54 (F := F)) c) Q := by
  simp only [k0_part54_eq_skeleton]; unfold k0_part54_skel
  simp only [semSignalWord, semWaitWord, Prog.lift, Prog.bind_op, Prog.bind_ret, Prog.pure_eq_ret, wp_deviceId]
  iintro ⟨H, Hk⟩
  iapply (st_s m ρ K c (n := 22) (by decide) rfl) $$ H; iintro H
  iapply (st_s m ρ K c (n := 23) (by decide) rfl) $$ H; iintro H
  iapply (st_s m ρ K c (n := 24) (by decide) rfl) $$ H; iintro H
  iapply (st_s m ρ K c (n := 25) (by decide) rfl) $$ H; iintro H
  iapply (st_s m ρ K c (n := 26) (by decide) rfl) $$ H; iintro H
  iapply (st_s m ρ K c (n := 27) (by decide) rfl) $$ H; iintro H
  iapply (wp_done c)
  iapply Hk $$ H

theorem part56 (c : Dev nD) {Q : _ → sProp 𝕄} :
    iprop(ASSt m ρ K c 3 ∗ (ASSt m ρ K c 10 -∗ Q ⟨⟩)) ⊢ WP c (onK (k0_part56 (F := F)) c) Q := by
  simp only [k0_part56_eq_skeleton]; unfold k0_part56_skel
  simp only [semSignalWord, semWaitWord, Prog.lift, Prog.bind_op, Prog.bind_ret, Prog.pure_eq_ret, wp_deviceId]
  iintro ⟨H, Hk⟩
  iapply (st_as m ρ K c (n := 3) (by decide) rfl) $$ H; iintro H
  iapply (st_as m ρ K c (n := 4) (by decide) rfl) $$ H; iintro H
  iapply (st_as m ρ K c (n := 5) (by decide) rfl) $$ H; iintro H
  iapply (st_as m ρ K c (n := 6) (by decide) rfl) $$ H; iintro H
  iapply (st_as m ρ K c (n := 7) (by decide) rfl) $$ H; iintro H
  iapply (st_as m ρ K c (n := 8) (by decide) rfl) $$ H; iintro H
  iapply (st_as m ρ K c (n := 9) (by decide) rfl) $$ H; iintro H
  iapply (wp_done c)
  iapply Hk $$ H

theorem part57 (c : Dev nD) {Q : _ → sProp 𝕄} :
    iprop(ASSt m ρ K c 10 ∗ (ASSt m ρ K c 16 -∗ Q ⟨⟩)) ⊢ WP c (onK (k0_part57 (F := F)) c) Q := by
  simp only [k0_part57_eq_skeleton]; unfold k0_part57_skel
  simp only [semSignalWord, semWaitWord, Prog.lift, Prog.bind_op, Prog.bind_ret, Prog.pure_eq_ret, wp_deviceId]
  iintro ⟨H, Hk⟩
  iapply (st_as m ρ K c (n := 10) (by decide) rfl) $$ H; iintro H
  iapply (st_as m ρ K c (n := 11) (by decide) rfl) $$ H; iintro H
  iapply (st_as m ρ K c (n := 12) (by decide) rfl) $$ H; iintro H
  iapply (st_as m ρ K c (n := 13) (by decide) rfl) $$ H; iintro H
  iapply (st_as m ρ K c (n := 14) (by decide) rfl) $$ H; iintro H
  iapply (st_as m ρ K c (n := 15) (by decide) rfl) $$ H; iintro H
  iapply (wp_done c)
  iapply Hk $$ H

theorem part58 (c : Dev nD) {Q : _ → sProp 𝕄} :
    iprop(ASSt m ρ K c 16 ∗ (ASSt m ρ K c 23 -∗ Q ⟨⟩)) ⊢ WP c (onK (k0_part58 (F := F)) c) Q := by
  simp only [k0_part58_eq_skeleton]; unfold k0_part58_skel
  simp only [semSignalWord, semWaitWord, Prog.lift, Prog.bind_op, Prog.bind_ret, Prog.pure_eq_ret, wp_deviceId]
  iintro ⟨H, Hk⟩
  iapply (st_as m ρ K c (n := 16) (by decide) rfl) $$ H; iintro H
  iapply (st_as m ρ K c (n := 17) (by decide) rfl) $$ H; iintro H
  iapply (st_as m ρ K c (n := 18) (by decide) rfl) $$ H; iintro H
  iapply (st_as m ρ K c (n := 19) (by decide) rfl) $$ H; iintro H
  iapply (st_as m ρ K c (n := 20) (by decide) rfl) $$ H; iintro H
  iapply (st_as m ρ K c (n := 21) (by decide) rfl) $$ H; iintro H
  iapply (st_as m ρ K c (n := 22) (by decide) rfl) $$ H; iintro H
  iapply (wp_done c)
  iapply Hk $$ H

theorem part59 (c : Dev nD) {Q : _ → sProp 𝕄} :
    iprop(ASSt m ρ K c 23 ∗ (ASSt m ρ K c 30 -∗ Q ⟨⟩)) ⊢ WP c (onK (k0_part59 (F := F)) c) Q := by
  simp only [k0_part59_eq_skeleton]; unfold k0_part59_skel
  simp only [semSignalWord, semWaitWord, Prog.lift, Prog.bind_op, Prog.bind_ret, Prog.pure_eq_ret, wp_deviceId]
  iintro ⟨H, Hk⟩
  iapply (st_as m ρ K c (n := 23) (by decide) rfl) $$ H; iintro H
  iapply (st_as m ρ K c (n := 24) (by decide) rfl) $$ H; iintro H
  iapply (st_as m ρ K c (n := 25) (by decide) rfl) $$ H; iintro H
  iapply (st_as m ρ K c (n := 26) (by decide) rfl) $$ H; iintro H
  iapply (st_as m ρ K c (n := 27) (by decide) rfl) $$ H; iintro H
  iapply (st_as m ρ K c (n := 28) (by decide) rfl) $$ H; iintro H
  iapply (st_as m ρ K c (n := 29) (by decide) rfl) $$ H; iintro H
  iapply (wp_done c)
  iapply Hk $$ H

end Cert.RunProof
end
end
-- ==== Proof.Phases.lean ====
/-
How one phase of the kernel ends and the next starts: what is split, joined and kept.
-/
module

public import proofs.«01_k».proof.Proof.Steps

@[expose] public section

noncomputable section

namespace Cert.RunProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

set_option maxRecDepth 8000

/-- Buffer `b` of device `c`, whole. -/
abbrev own (c : Dev nD) (b : Ref sig .tc) (f : Buf (Elt F) ((c : Thread nD τ).loc b)) : sProp 𝕄 := ((c : Thread nD τ).loc b) ↦{fullShare} f

/-- The credits, the positions and, after the waits, the counters at zero of a wait phase's 31 cells. -/
def crs (c : Dev nD) (k : Fin 4) (ix : ℕ → Fin 32) : sProp 𝕄 := bigSep (Finset.Ico 0 31) fun r => cred (tallyAt (gc c (some (k, ix r))) () N)
def ats (c : Dev nD) (k : Fin 4) (ix : ℕ → Fin 32) : sProp 𝕄 := bigSep (Finset.Ico 0 31) fun r => atPos ER (gc c (some (k, ix r))) 0 ∅ 0
def zeros (c : Dev nD) (k : Fin 4) (ix : ℕ → Fin 32) : sProp 𝕄 := bigSep (Finset.Ico 0 31) fun r => semVal (gc c (some (k, ix r))) 0

theorem wait_start (c : Dev nD) (k : Fin 4) (ix : ℕ → Fin 32) (O : CellTallies nD τ sig Unit) :
    iprop(records m ρ K ∗ (∃ W, owes (c : Thread nD τ) O W) ∗ crs c k ix ∗ ats c k ix) ⊢ WSt m ρ K c k ix O 0 := by
  unfold WSt crs ats
  rw [Finset.Ico_self, bigSep_empty, bigSep_sep']
  iintro ⟨HR, HO, Hc, Ha⟩
  isplitl [HR]; · iexact HR
  isplitl [HO]; · iexact HO
  isplitl [Hc Ha]
  · isplitl [Hc] <;> iassumption
  iempintro

theorem wait_end (c : Dev nD) (k : Fin 4) (ix : ℕ → Fin 32) (O : CellTallies nD τ sig Unit) :
    WSt m ρ K c k ix O 31 ⊢ iprop(records m ρ K ∗ (∃ W, owes (c : Thread nD τ) O W) ∗ zeros c k ix
      ∗ bigSep (Finset.Ico 0 31) fun r => pay4 m ρ c k (ix r)) := by
  unfold WSt zeros
  rw [Finset.Ico_self, bigSep_empty, bigSep_sep']
  iintro ⟨HR, HO, -, Hz, Hp⟩
  isplitl [HR]; · iexact HR
  isplitl [HO]; · iexact HO
  isplitl [Hz] <;> iassumption

/-! ## The rounded product by rows, the landing buffers by slots -/

omit [FloatOps F] in
theorem rows_own (c : Dev nD) (f : Buf (Elt F) ((c : Thread nD τ).loc cc0_scratch1)) : (own c cc0_scratch1 f : sProp 𝕄)
    = bigSep Finset.univ fun b : Fin 32 => (pbfR b).view.loc (c : Thread nD τ) ↦[(pbfR b).view.set]{fullShare} f := by
  refine Eq.trans ?_ (bigSep_congr fun b _ => by rw [pbfR_set])
  exact Ring.pointsTo_blocks (Ix := Unit) (Name := ℕ) (U := UU) (Lvl := ℕ) (q := fullShare) (ℓ := (c : Thread nD τ).loc cc0_scratch1) (fun b : Fin 32 => (rowsR b).set) rows_disj rows_cover f
omit [FloatOps F] in
theorem rs_own (c : Dev nD) (f : Buf (Elt F) ((c : Thread nD τ).loc cc0_scratch2)) : (own c cc0_scratch2 f : sProp 𝕄)
    = bigSep Finset.univ fun s : Fin 32 => rsP c s f := by
  refine Eq.trans ?_ (bigSep_congr fun s _ => by unfold rsP; rw [rsS_set])
  exact Ring.pointsTo_blocks (Ix := Unit) (Name := ℕ) (U := UU) (Lvl := ℕ) (q := fullShare) (ℓ := (c : Thread nD τ).loc cc0_scratch2) (fun b : Fin 32 => (slotR b).set) slot_disj slot_cover f
omit [FloatOps F] in
theorem ag_own (c : Dev nD) (f : Buf (Elt F) ((c : Thread nD τ).loc cc0_scratch4)) : (own c cc0_scratch4 f : sProp 𝕄)
    = bigSep Finset.univ fun s : Fin 32 => agP c s f := by
  refine Eq.trans ?_ (bigSep_congr fun s _ => by unfold agP; rw [agS_set])
  exact Ring.pointsTo_blocks (Ix := Unit) (Name := ℕ) (U := UU) (Lvl := ℕ) (q := fullShare) (ℓ := (c : Thread nD τ).loc cc0_scratch4) (fun b : Fin 32 => (slotR b).set) slot_disj slot_cover f
omit [FloatOps F] in
theorem rs_some (c s : Dev nD) (f : Buf (Elt F) ((c : Thread nD τ).loc cc0_scratch2)) : rsP c s f ⊢ (iprop(∃ f, rsP c s f) : sProp 𝕄) := by
  iintro H; iexists f; iexact H
omit [FloatOps F] in
theorem ag_some (c s : Dev nD) (f : Buf (Elt F) ((c : Thread nD τ).loc cc0_scratch4)) : agP c s f ⊢ (iprop(∃ f, agP c s f) : sProp 𝕄) := by
  iintro H; iexists f; iexact H
omit [FloatOps F] in
theorem rs_join_some (c : Dev nD) (f₀ : Buf (Elt F) ((c : Thread nD τ).loc cc0_scratch2)) :
    (bigSep Finset.univ fun s : Fin 32 => iprop(∃ f, rsP c s f)) ⊢ (iprop(∃ f, own c cc0_scratch2 f) : sProp 𝕄) := by
  have h : (bigSep Finset.univ fun s : Fin 32 => (iprop(∃ f, rsP c s f) : sProp 𝕄))
      ⊢ bigSep Finset.univ fun s : Fin 32 => iprop(∃ f, (c : Thread nD τ).loc cc0_scratch2 ↦[(slotR s).set]{fullShare} f) :=
    bigSep_mono fun s _ => by unfold rsP; rw [rsS_set]; exact BI.Entails.refl _
  refine h.trans ?_
  exact Ring.pointsTo_blocks_join_exists (Ix := Unit) (Name := ℕ) (U := UU) (Lvl := ℕ) (q := fullShare) (ℓ := (c : Thread nD τ).loc cc0_scratch2) (fun b : Fin 32 => (slotR b).set) slot_disj slot_cover f₀

theorem rows_split (c : Dev nD) : (own c cc0_scratch1 (PB m ρ c) : sProp 𝕄) = iprop(rowP m ρ c c ∗ bigSep (Finset.Ico 0 31) fun r => rowP m ρ c (pr c r)) := by
  rw [← big_peers c fun b => rowP m ρ c b]
  rw [rows_own]; rfl

theorem ag_join (c : Dev nD) : (own c cc0_scratch4 (AG m ρ c) : sProp 𝕄) = iprop(agP c c (AG m ρ c) ∗ bigSep (Finset.Ico 0 31) fun r => agP c (pr c r) (AG m ρ c)) := by
  rw [← big_peers c fun b => agP c b (AG m ρ c)]
  exact ag_own c _

omit [FloatOps F] in
theorem rs_slots (c : Dev nD) : (iprop(∃ f, own c cc0_scratch2 f) : sProp 𝕄) ⊢ iprop((∃ f, rsP c c f) ∗ bigSep (Finset.Ico 0 31) fun r => iprop(∃ f, rsP c (pr c r) f)) := by
  rw [← big_peers c fun s => iprop(∃ f, rsP c s f)]
  iintro ⟨%f, H⟩
  ihave H := (Entails.of_eq (rs_own c f)) $$ H
  have h : (bigSep Finset.univ fun s : Fin 32 => (rsP c s f : sProp 𝕄)) ⊢ bigSep Finset.univ fun s => iprop(∃ f, rsP c s f) :=
    bigSep_mono fun s _ => rs_some c s f
  iapply h $$ H

omit [FloatOps F] in
theorem ag_slots (c : Dev nD) : (iprop(∃ f, own c cc0_scratch4 f) : sProp 𝕄) ⊢ iprop((∃ f, agP c c f) ∗ bigSep (Finset.Ico 0 31) fun r => iprop(∃ f, agP c (pr c r) f)) := by
  rw [← big_peers c fun s => iprop(∃ f, agP c s f)]
  iintro ⟨%f, H⟩
  ihave H := (Entails.of_eq (ag_own c f)) $$ H
  have h : (bigSep Finset.univ fun s : Fin 32 => (agP c s f : sProp 𝕄)) ⊢ bigSep Finset.univ fun s => iprop(∃ f, agP c s f) :=
    bigSep_mono fun s _ => ag_some c s f
  iapply h $$ H

theorem rs_join (c : Dev nD) : iprop((∃ f, rsP c c f) ∗ bigSep (Finset.Ico 0 31) fun r => pay4 m ρ c 1 (pr c r)) ⊢ (iprop(∃ f, own c cc0_scratch2 f) : sProp 𝕄) := by
  have h : iprop((∃ f, rsP c c f) ∗ bigSep (Finset.Ico 0 31) fun r => pay4 m ρ c 1 (pr c r))
      ⊢ (iprop((∃ f, rsP c c f) ∗ bigSep (Finset.Ico 0 31) fun r => iprop(∃ f, rsP c (pr c r) f)) : sProp 𝕄) := by
    have h' : (bigSep (Finset.Ico 0 31) fun r => pay4 m ρ c 1 (pr c r)) ⊢ (bigSep (Finset.Ico 0 31) fun r => iprop(∃ f, rsP c (pr c r) f) : sProp 𝕄) :=
      bigSep_mono fun r _ => rs_some c (pr c r) (RS m ρ c)
    iintro ⟨H1, H2⟩
    isplitl [H1]; · iexact H1
    iapply h' $$ H2
  refine h.trans ?_
  rw [← big_peers c fun s => iprop(∃ f, rsP c s f)]
  exact rs_join_some c (RS m ρ c)

/-! ## Between the phases -/

/-- The duty tokens of the reduce-scatter's transfers and of the all-gather's. -/
def rsToks (c : Dev nD) : sProp 𝕄 := bigSep (Finset.Ico 0 31) fun r => iprop(dutyTok ER (sC c r) 0 0 ∗ dutyTok ER (vC (pr c r) c) 0 0)
def agToks (c : Dev nD) : sProp 𝕄 := bigSep (Finset.Ico 0 31) fun r => iprop(dutyTok ER (asC c r) 0 0 ∗ dutyTok ER (avC (pr c r) c) 0 0)
def agPlaces (c : Dev nD) : sProp 𝕄 := bigSep (Finset.Ico 0 31) fun r => iprop(∃ f, agP (pr c r) c f)

theorem rs_start (c : Dev nD) : iprop(BarSt m ρ K c ∗ own c cc0_scratch1 (PB m ρ c) ∗ rsToks c)
    ⊢ iprop(RsSt m ρ K c 0 ∗ semVal (bC c) 0 ∗ rowP m ρ c c ∗ agPlaces c) := by
  rw [rows_split]
  unfold BarSt RsSt rsToks agPlaces places
  simp only [Finset.Ico_self, bigSep_empty, bigSep_sep']
  iintro ⟨⟨HR, HO, Hz, Hrs, Hag⟩, ⟨Hc, Hrows⟩, Ht, Ht'⟩
  isplitl [HR HO Hrs Hrows Ht Ht']
  · isplitl [HR]; · iexact HR
    isplitl [HO]; · iexact HO
    isplitl [Hrs Hrows Ht Ht']
    · isplitl [Hrows]; · iexact Hrows
      isplitl [Hrs]; · iexact Hrs
      isplitl [Ht] <;> iassumption
    iempintro
  isplitl [Hz]; · iexact Hz
  isplitl [Hc] <;> iassumption

theorem rs_end (c : Dev nD) : RsSt m ρ K c 31 ⊢ iprop(records m ρ K ∗ (∃ W, owes (c : Thread nD τ) (oA c 0) W) ∗ crs c 0 fi) := by
  unfold RsSt crs
  rw [Finset.Ico_self, bigSep_empty, oV_end, add_zero]
  iintro ⟨HR, HO, -, Hc⟩
  isplitl [HR]; · iexact HR
  isplitl [HO] <;> iassumption

theorem ag_start (c : Dev nD) : iprop(records m ρ K ∗ (∃ W, owes (c : Thread nD τ) (oA c 0) W) ∗ own c cc0_scratch3 (RED m ρ c) ∗ agPlaces c ∗ agToks c)
    ⊢ ASt m ρ K c 0 := by
  have e : (own c cc0_scratch3 (RED m ρ c) : sProp 𝕄) = redP m ρ c (left 0) := by unfold redP; rw [View.set_whole]; rfl
  rw [e]
  unfold ASt agPlaces agToks
  simp only [Finset.Ico_self, bigSep_empty, bigSep_sep']
  iintro ⟨HR, HO, Hr, Hp, Ht, Ht'⟩
  isplitl [HR]; · iexact HR
  isplitl [HO]; · iexact HO
  isplitl [Hr]; · iexact Hr
  isplitl [Hp Ht Ht']
  · isplitl [Hp]; · iexact Hp
    isplitl [Ht] <;> iassumption
  iempintro

theorem ag_end (c : Dev nD) : ASt m ρ K c 31 ⊢ iprop(records m ρ K ∗ (∃ W, owes (c : Thread nD τ) 0 W) ∗ redP m ρ c (left 31) ∗ crs c 2 fi) := by
  unfold ASt crs
  rw [Finset.Ico_self, bigSep_empty, oA_end]
  iintro ⟨HR, HO, Hr, -, Hc⟩
  isplitl [HR]; · iexact HR
  isplitl [HO]; · iexact HO
  isplitl [Hr] <;> iassumption

/-- The shares of the reduced rows join again. -/
theorem red_join (c : Dev nD) : ∀ n, iprop(redP m ρ c (left n) ∗ bigSep (Finset.Ico 0 n) fun r => redP m ρ c (lent r)) ⊢ redP m ρ c (left 0)
  | 0 => by iintro ⟨H, -⟩; iexact H
  | n + 1 => by
    rw [big_top]
    iintro ⟨H, Hl, Hto⟩
    iapply (red_join c n)
    isplitr [Hto]
    · iapply (red_split m ρ c n).2
      isplitl [H] <;> iassumption
    iexact Hto

theorem red_back (c : Dev nD) : iprop(redP m ρ c (left 31) ∗ bigSep (Finset.Ico 0 31) fun r => pay4 m ρ c 2 (fi r)) ⊢ own c cc0_scratch3 (RED m ρ c) := by
  rw [bigSep_congr fun r hr => red_pay m ρ c (Finset.mem_Ico.mp hr).2]
  refine (red_join m ρ c 31).trans ?_
  unfold redP; rw [View.set_whole]; exact BI.Entails.refl _

theorem rows_back (c : Dev nD) : iprop(rowP m ρ c c ∗ bigSep (Finset.Ico 0 31) fun r => pay4 m ρ c 0 (fi r)) ⊢ own c cc0_scratch1 (PB m ρ c) := by
  rw [rows_split, bigSep_congr fun r hr => row_pay m ρ c (Finset.mem_Ico.mp hr).2]

/-- Device `c`'s own slot of the all-gather, as the store leaves it. -/
theorem own_slot (c : Dev nD) (f : Buf (Elt F) ((c : Thread nD τ).loc cc0_scratch4)) :
    ((c : Thread nD τ).loc cc0_scratch4 ↦[(slotR c).set]{fullShare} ((agM.access (slotR c) : View sig .tc _ _ _).write (Elt F) f (k0_pay18 (RED m ρ c)) Finset.univ) : sProp 𝕄)
      = agP c c (AG m ρ c) := by
  rw [← land_ag m ρ c c f, agS_set]
  congr 1
  have h := View.write_reshape_univ (Val := Elt F) (v := ((View.whole cc0_scratch4).slice (slotR c))) (s' := S16x512) squeezes_S1x16x512_S16x512.numel_eq f (redM.view.read (Elt F) (RED m ρ c))
  refine (Eq.trans ?_ h.symm)
  refine congrArg (fun w => ((View.whole cc0_scratch4).slice (slotR c)).write (Elt F) f w Finset.univ) (funext fun x => ?_)
  show RED m ρ c _ = RED m ρ c _
  congr 1

end Cert.RunProof
end
end
-- ==== Proof.PartsE.lean ====
/-
The kernel's parts that also load and store, or in which one phase ends and the next starts.
-/
module

public import proofs.«01_k».proof.Proof.Phases

@[expose] public section

noncomputable section

namespace Cert.RunProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

set_option maxRecDepth 8000

theorem hz2 : (![0, 0] : Fin 2 → Nat) = fun _ => 0 := funext fun a => by fin_cases a <;> rfl
theorem hz3 : (![0, 0, 0] : Fin 3 → Nat) = fun _ => 0 := funext fun a => by fin_cases a <;> rfl

section Whole
omit [FloatOps F]

/-! ## Whole loads and stores -/

theorem rd_x (f : (cc0_stg0_0 : Ref sig .tc).ty.Contents (Elt F)) :
    (xM : Memref sig .tc .vmem S512x256 .bf16).view.readAt (Elt F) (Rect.unit (s := S512x256) ![0, 0] S512x256.size inb_S512x256_S512x256_0_0).toLoadRect f = f :=
  Memref.readAt_unit_zero (Elt F) cc0_stg0_0 hz2 _ _
theorem rd_y (f : (cc0_stg1_0 : Ref sig .tc).ty.Contents (Elt F)) :
    (yM : Memref sig .tc .vmem S256x512 .bf16).view.readAt (Elt F) (Rect.unit (s := S256x512) ![0, 0] S256x512.size inb_S256x512_S256x512_0_0).toLoadRect f = f :=
  Memref.readAt_unit_zero (Elt F) cc0_stg1_0 hz2 _ _
theorem rd_part (f : (cc0_scratch0 : Ref sig .tc).ty.Contents (Elt F)) :
    (partM : Memref sig .tc .vmem S512x512 .f32).view.readAt (Elt F) (Rect.unit (s := S512x512) ![0, 0] S512x512.size inb_S512x512_S512x512_0_0).toLoadRect f = f :=
  Memref.readAt_unit_zero (Elt F) cc0_scratch0 hz2 _ _
theorem rd_red (f : (cc0_scratch3 : Ref sig .tc).ty.Contents (Elt F)) :
    (redM : Memref sig .tc .vmem S16x512 .bf16).view.readAt (Elt F) (Rect.unit (s := S16x512) ![0, 0] S16x512.size inb_S16x512_S16x512_0_0).toLoadRect f = f :=
  Memref.readAt_unit_zero (Elt F) cc0_scratch3 hz2 _ _
theorem rd_ag (f : (cc0_scratch4 : Ref sig .tc).ty.Contents (Elt F)) :
    (agM : Memref sig .tc .vmem S32x16x512 .bf16).view.readAt (Elt F) (Rect.unit (s := S32x16x512) ![0, 0, 0] S32x16x512.size inb_S32x16x512_S32x16x512_0_0_0).toLoadRect f = f :=
  Memref.readAt_unit_zero (Elt F) cc0_scratch4 hz3 _ _

theorem wr_part (f w : (cc0_scratch0 : Ref sig .tc).ty.Contents (Elt F)) :
    ((partM : Memref sig .tc .vmem S512x512 .f32).access (Rect.unit (s := S512x512) ![0, 0] S512x512.size inb_S512x512_S512x512_0_0) : View sig .tc _ _ _).write (Elt F) f w Finset.univ = w :=
  Memref.write_access_unit_zero_univ (Elt F) cc0_scratch0 hz2 _ f w
theorem wr_pbf (f w : (cc0_scratch1 : Ref sig .tc).ty.Contents (Elt F)) :
    ((pbfM : Memref sig .tc .vmem S512x512 .bf16).access (Rect.unit (s := S512x512) ![0, 0] S512x512.size inb_S512x512_S512x512_0_0) : View sig .tc _ _ _).write (Elt F) f w Finset.univ = w :=
  Memref.write_access_unit_zero_univ (Elt F) cc0_scratch1 hz2 _ f w
theorem wr_red (f w : (cc0_scratch3 : Ref sig .tc).ty.Contents (Elt F)) :
    ((redM : Memref sig .tc .vmem S16x512 .bf16).access (Rect.unit (s := S16x512) ![0, 0] S16x512.size inb_S16x512_S16x512_0_0) : View sig .tc _ _ _).write (Elt F) f w Finset.univ = w :=
  Memref.write_access_unit_zero_univ (Elt F) cc0_scratch3 hz2 _ f w
theorem wr_o (f w : (cc0_stg2_0 : Ref sig .tc).ty.Contents (Elt F)) :
    ((oM : Memref sig .tc .vmem S512x512 .f32).access (Rect.unit (s := S512x512) ![0, 0] S512x512.size inb_S512x512_S512x512_0_0) : View sig .tc _ _ _).write (Elt F) f w Finset.univ = w :=
  Memref.write_access_unit_zero_univ (Elt F) cc0_stg2_0 hz2 _ f w

end Whole

/-! ## The parts -/

theorem part6 (c : Dev nD) (w w0 w1 : BitVec 32) {Q : _ → sProp 𝕄} :
    iprop(SigSt m ρ K c 29 ∗ cred (tallyAt (bC c) () 31) ∗ atPos ER (bC c) 0 ∅ 0 ∗ own c cc0_stg0_0 (astg m ρ c) ∗ own c cc0_stg1_0 (bstg m ρ c) ∗ (∃ f, own c cc0_scratch0 f) ∗ (∃ f, own c cc0_scratch1 f)
        ∗ ((BarSt m ρ K c ∗ own c cc0_stg0_0 (astg m ρ c) ∗ own c cc0_stg1_0 (bstg m ρ c) ∗ own c cc0_scratch0 (PT m ρ c) ∗ own c cc0_scratch1 (PB m ρ c)) -∗ Q ⟨⟩))
      ⊢ WP c (onK (k0_part6 (F := F)) c w (SemArray.scalar (sig.barrier 0 rfl)) w0 w1) Q := by
  simp only [k0_part6_eq_skeleton]; unfold k0_part6_skel
  simp only [semSignalWord, semWaitWord, Prog.lift, Prog.bind_op, Prog.bind_ret, Prog.pure_eq_ret, wp_deviceId]
  iintro ⟨H, Hc, Hat, Hx, Hy, ⟨%f, Hp⟩, ⟨%g, Hb⟩, Hk⟩
  iapply (st_sig m ρ K c (n := 29) (by decide) (Fin.ext (k0_dev30_eq c))) $$ H; iintro H
  iapply (st_sig m ρ K c (n := 30) (by decide) (Fin.ext (k0_dev31_eq c))) $$ H; iintro H
  iapply (st_bar m ρ K c) $$ [H Hc Hat]
  · isplitl [H]; · iexact H
    isplitl [Hc] <;> iassumption
  iintro H
  iapply (wp_load 𝒱₀ (c : Thread nD τ) none Set.univ (m := xM) (Finset.subset_univ _)) $$ Hx; iintro Hx
  rw [rd_x]
  iapply (wp_load 𝒱₀ (c : Thread nD τ) none Set.univ (m := yM) (Finset.subset_univ _)) $$ Hy; iintro Hy
  rw [rd_y]
  iapply (wp_load 𝒱₀ (c : Thread nD τ) none Set.univ (m := partM) (Finset.subset_univ _)) $$ Hp; iintro Hp
  iapply (wp_store 𝒱₀ (c : Thread nD τ) none Set.univ (m := partM) (r := Rect.unit (s := S512x512) ![0, 0] S512x512.size inb_S512x512_S512x512_0_0) (Mk := Finset.univ) (Finset.subset_univ _)) $$ Hp; iintro Hp
  rw [wr_part]
  iapply (wp_load 𝒱₀ (c : Thread nD τ) none Set.univ (m := partM) (Finset.subset_univ _)) $$ Hp; iintro Hp
  rw [rd_part]
  iapply (wp_load 𝒱₀ (c : Thread nD τ) none Set.univ (m := pbfM) (Finset.subset_univ _)) $$ Hb; iintro Hb
  iapply (wp_store 𝒱₀ (c : Thread nD τ) none Set.univ (m := pbfM) (r := Rect.unit (s := S512x512) ![0, 0] S512x512.size inb_S512x512_S512x512_0_0) (Mk := Finset.univ) (Finset.subset_univ _)) $$ Hb; iintro Hb
  rw [wr_pbf]
  iapply (wp_done c)
  iapply Hk
  isplitl [H]; · iexact H
  isplitl [Hx]; · iexact Hx
  isplitl [Hy]; · iexact Hy
  isplitl [Hp]; · iexact Hp
  iexact Hb

/-- The load of the device's own rows of its product. -/
theorem st_ldrow (c : Dev nD) {o : Fin 2 → ℕ} {h} (e4 : o = ![16 * c.val, 0])
    {hl} {α : Type} {p : Vec F S16x512 .f32 → Prog (TpuEff nD τ sig (Elt F) Λ₀ .tc) α} {Q : α → sProp 𝕄} :
    own c cc0_scratch0 (PT m ρ c) ⊢ iprop((own c cc0_scratch0 (PT m ρ c) -∗ WP c (p (ACC m ρ c 0)) Q)
      -∗ WP c (.op (.load partM (Rect.unit (s := S512x512) o S16x512.size h).toLoadRect hl) p) Q) := by
  subst e4
  exact wp_load 𝒱₀ (c : Thread nD τ) none Set.univ (m := partM) (Finset.subset_univ _)

theorem part18 (c : Dev nD) (w : BitVec 32) {Q : _ → sProp 𝕄} :
    iprop(RsSt m ρ K c 30 ∗ own c cc0_scratch0 (PT m ρ c) ∗ crs c 1 (fun r => pr c r) ∗ ats c 1 (fun r => pr c r)
        ∗ ((VSt m ρ K c 2 ∗ own c cc0_scratch0 (PT m ρ c) ∗ crs c 0 fi) -∗ Q (ACC m ρ c 1)))
      ⊢ WP c (onK (k0_part18 (F := F)) c w) Q := by
  simp only [k0_part18_eq_skeleton]; unfold k0_part18_skel
  simp only [semSignalWord, semWaitWord, Prog.lift, Prog.bind_op, Prog.bind_ret, Prog.pure_eq_ret, wp_deviceId]
  iintro ⟨H, Hp, Hcr, Hat, Hk⟩
  iapply (st_rs m ρ K c (n := 30) (by decide) (Fin.ext (k0_dev62_eq c)) (k0_off1_eq c) (k0_off2_eq c) (k0_off3_eq c 30) rfl) $$ H; iintro H
  ihave ⟨HR, HO, Hs⟩ := (rs_end m ρ K c) $$ H
  ihave H := (wait_start m ρ K c 1 (fun r => pr c r) (oA c 0)) $$ [HR HO Hcr Hat]
  · isplitl [HR]; · iexact HR
    isplitl [HO]; · iexact HO
    isplitl [Hcr] <;> iassumption
  iapply (st_ldrow m ρ c (k0_off4_eq c)) $$ Hp; iintro Hp
  iapply (st_v m ρ K c (n := 0) (by decide) (k0_off5_eq c 0)) $$ H; iintro H
  iapply (st_ld m ρ K c (n := 0) (k0_off7_eq c 0)) $$ H; iintro H
  iapply (st_v m ρ K c (n := 1) (by decide) (k0_off5_eq c 1)) $$ H; iintro H
  rw [show k0_pay3 (ACC m ρ c 0) (rsV m ρ c (pr c 0)) = ACC m ρ c 1 from rfl]
  iapply (wp_done c)
  iapply Hk
  isplitl [H]; · iexact H
  isplitl [Hp] <;> iassumption

theorem part31 (c : Dev nD) (w w0 : BitVec 32) {Q : _ → sProp 𝕄} :
    iprop(VSt m ρ K c 29 ∗ (∃ f, own c cc0_scratch3 f) ∗ ((VSt m ρ K c 31 ∗ own c cc0_scratch3 (RED m ρ c)) -∗ Q ⟨⟩))
      ⊢ WP c (onK (k0_part31 (F := F)) c w (ACC m ρ c 29) w0) Q := by
  simp only [k0_part31_eq_skeleton]; unfold k0_part31_skel
  simp only [semSignalWord, semWaitWord, Prog.lift, Prog.bind_op, Prog.bind_ret, Prog.pure_eq_ret, wp_deviceId]
  iintro ⟨H, ⟨%f, Hr⟩, Hk⟩
  iapply (st_v m ρ K c (n := 29) (by decide) (k0_off5_eq c 29)) $$ H; iintro H
  iapply (st_ld m ρ K c (n := 29) (k0_off7_eq c 29)) $$ H; iintro H
  iapply (st_v m ρ K c (n := 30) (by decide) (k0_off5_eq c 30)) $$ H; iintro H
  iapply (st_ld m ρ K c (n := 30) (k0_off7_eq c 30)) $$ H; iintro H
  iapply (wp_load 𝒱₀ (c : Thread nD τ) none Set.univ (m := redM) (Finset.subset_univ _)) $$ Hr; iintro Hr
  iapply (wp_store 𝒱₀ (c : Thread nD τ) none Set.univ (m := redM) (r := Rect.unit (s := S16x512) ![0, 0] S16x512.size inb_S16x512_S16x512_0_0) (Mk := Finset.univ) (Finset.subset_univ _)) $$ Hr; iintro Hr
  rw [wr_red]
  rw [show k0_pay17 (ACC m ρ c 29) (rsV m ρ c (pr c 29)) (rsV m ρ c (pr c 30)) = RED m ρ c from rfl]
  iapply (wp_done c)
  iapply Hk
  isplitl [H] <;> iassumption

/-- The store of the device's own reduced rows into its slot. -/
theorem st_own (c : Dev nD) {o : Fin 3 → ℕ} {h} (e8 : o = ![c.val, 0, 0])
    {hl hx hm} {α : Type} {p : PUnit → Prog (TpuEff nD τ sig (Elt F) Λ₀ .tc) α} {Q : α → sProp 𝕄} :
    iprop(∃ f, agP c c f) ⊢ iprop((agP c c (AG m ρ c) -∗ WP c (p ⟨⟩) Q)
      -∗ WP c (.op (.load agM (Rect.unit (s := S32x16x512) o S1x16x512.size h).toLoadRect hl) fun _ =>
        .op (.store agM (Rect.unit (s := S32x16x512) o S1x16x512.size h) (k0_pay18 (RED m ρ c)) Finset.univ hx hm) p) Q) := by
  subst e8
  have e : ∀ f : Buf (Elt F) ((c : Thread nD τ).loc cc0_scratch4), (agP c c f : sProp 𝕄) = ((c : Thread nD τ).loc cc0_scratch4 ↦[(slotR c).set]{fullShare} f) :=
    fun f => by unfold agP; rw [agS_set]
  iintro ⟨%f, H⟩ Hk
  ihave H := (Entails.of_eq (e f)) $$ H
  iapply (wp_load 𝒱₀ (c : Thread nD τ) none Set.univ (m := agM) (S := (slotR c).set) (by
    show (View.whole cc0_scratch4).setOn _ ⊆ _
    unfold View.setOn; exact (by rw [Finset.map_refl]))) $$ H
  iintro H
  iapply (wp_store 𝒱₀ (c : Thread nD τ) none Set.univ (m := agM) (r := slotR c) (S := (slotR c).set) (Mk := Finset.univ) (by
    show ((View.whole cc0_scratch4).slice (slotR c)).set ⊆ _
    rw [View.set_slice_whole])) $$ H
  iintro H
  iapply Hk
  ihave H := (Entails.of_eq (own_slot m ρ c f)) $$ H
  iexact H

theorem part41 (c : Dev nD) (w : BitVec 32) {Q : _ → sProp 𝕄} :
    iprop(ASt m ρ K c 30 ∗ (∃ f, agP c c f) ∗ crs c 3 (fun r => pr c r) ∗ ats c 3 (fun r => pr c r)
        ∗ ((AVSt m ρ K c 2 ∗ redP m ρ c (left 31) ∗ agP c c (AG m ρ c) ∗ crs c 2 fi) -∗ Q ⟨⟩))
      ⊢ WP c (onK (k0_part41 (F := F)) c w) Q := by
  simp only [k0_part41_eq_skeleton]; unfold k0_part41_skel
  simp only [semSignalWord, semWaitWord, Prog.lift, Prog.bind_op, Prog.bind_ret, Prog.pure_eq_ret, wp_deviceId]
  iintro ⟨H, Hg, Hcr, Hat, Hk⟩
  iapply (st_ag m ρ K c (n := 30) (by decide) (Fin.ext (k0_dev93_eq c)) (k0_off1_eq c) (k0_off2_eq c) rfl) $$ H; iintro H
  ihave ⟨HR, HO, Hr, Hs⟩ := (ag_end m ρ K c) $$ H
  ihave H := (wait_start m ρ K c 3 (fun r => pr c r) 0) $$ [HR HO Hcr Hat]
  · isplitl [HR]; · iexact HR
    isplitl [HO]; · iexact HO
    isplitl [Hcr] <;> iassumption
  unfold redP
  iapply (wp_load 𝒱₀ (c : Thread nD τ) none Set.univ (m := redM) (by rw [View.set_whole]; exact Finset.subset_univ _)) $$ Hr; iintro Hr
  rw [rd_red]
  iapply (st_own m ρ c (k0_off8_eq c)) $$ Hg; iintro Hg
  iapply (st_av m ρ K c (n := 0) (by decide) (k0_off5_eq c 0)) $$ H; iintro H
  iapply (st_av m ρ K c (n := 1) (by decide) (k0_off5_eq c 1)) $$ H; iintro H
  iapply (wp_done c)
  iapply Hk
  isplitl [H]; · iexact H
  isplitl [Hr]; · iexact Hr
  isplitl [Hg] <;> iassumption

theorem part49 (c : Dev nD) (w w0 : BitVec 32) {Q : _ → sProp 𝕄} :
    iprop(AVSt m ρ K c 29 ∗ agP c c (AG m ρ c) ∗ (∃ f, own c cc0_stg2_0 f) ∗ crs c 0 fi ∗ ats c 0 fi
        ∗ ((SSt m ρ K c 1 ∗ own c cc0_scratch4 (AG m ρ c) ∗ own c cc0_stg2_0 (OUT m ρ c) ∗ zeros c 3 (fun r => pr c r)) -∗ Q ⟨⟩))
      ⊢ WP c (onK (k0_part49 (F := F)) c w w0) Q := by
  simp only [k0_part49_eq_skeleton]; unfold k0_part49_skel
  simp only [semSignalWord, semWaitWord, Prog.lift, Prog.bind_op, Prog.bind_ret, Prog.pure_eq_ret, wp_deviceId]
  iintro ⟨H, Hg, ⟨%f, Hout⟩, Hcr, Hat, Hk⟩
  iapply (st_av m ρ K c (n := 29) (by decide) (k0_off5_eq c 29)) $$ H; iintro H
  iapply (st_av m ρ K c (n := 30) (by decide) (k0_off5_eq c 30)) $$ H; iintro H
  ihave ⟨HR, HO, Hz, Hp⟩ := (wait_end m ρ K c 3 (fun r => pr c r) 0) $$ H
  ihave Hg := (Entails.of_eq (ag_join m ρ c).symm) $$ [Hg Hp]
  · isplitl [Hg]; · iexact Hg
    iexact Hp
  ihave H := (wait_start m ρ K c 0 fi 0) $$ [HR HO Hcr Hat]
  · isplitl [HR]; · iexact HR
    isplitl [HO]; · iexact HO
    isplitl [Hcr] <;> iassumption
  iapply (wp_load 𝒱₀ (c : Thread nD τ) none Set.univ (m := agM) (Finset.subset_univ _)) $$ Hg; iintro Hg
  rw [rd_ag]
  iapply (wp_load 𝒱₀ (c : Thread nD τ) none Set.univ (m := oM) (Finset.subset_univ _)) $$ Hout; iintro Hout
  iapply (wp_store 𝒱₀ (c : Thread nD τ) none Set.univ (m := oM) (r := Rect.unit (s := S512x512) ![0, 0] S512x512.size inb_S512x512_S512x512_0_0) (Mk := Finset.univ) (Finset.subset_univ _)) $$ Hout; iintro Hout
  rw [wr_o]
  iapply (st_s m ρ K c (n := 0) (by decide) rfl) $$ H; iintro H
  iapply (wp_done c)
  iapply Hk
  isplitl [H]; · iexact H
  isplitl [Hg]; · iexact Hg
  isplitl [Hout]; · iexact Hout
  iexact Hz

theorem part55 (c : Dev nD) {Q : _ → sProp 𝕄} :
    iprop(SSt m ρ K c 28 ∗ rowP m ρ c c ∗ crs c 2 fi ∗ ats c 2 fi
        ∗ ((ASSt m ρ K c 3 ∗ own c cc0_scratch1 (PB m ρ c) ∗ zeros c 0 fi) -∗ Q ⟨⟩))
      ⊢ WP c (onK (k0_part55 (F := F)) c) Q := by
  simp only [k0_part55_eq_skeleton]; unfold k0_part55_skel
  simp only [semSignalWord, semWaitWord, Prog.lift, Prog.bind_op, Prog.bind_ret, Prog.pure_eq_ret, wp_deviceId]
  iintro ⟨H, Hrow, Hcr, Hat, Hk⟩
  iapply (st_s m ρ K c (n := 28) (by decide) rfl) $$ H; iintro H
  iapply (st_s m ρ K c (n := 29) (by decide) rfl) $$ H; iintro H
  iapply (st_s m ρ K c (n := 30) (by decide) rfl) $$ H; iintro H
  ihave ⟨HR, HO, Hz, Hp⟩ := (wait_end m ρ K c 0 fi 0) $$ H
  ihave Hrow := (rows_back m ρ c) $$ [Hrow Hp]
  · isplitl [Hrow] <;> iassumption
  ihave H := (wait_start m ρ K c 2 fi 0) $$ [HR HO Hcr Hat]
  · isplitl [HR]; · iexact HR
    isplitl [HO]; · iexact HO
    isplitl [Hcr] <;> iassumption
  iapply (st_as m ρ K c (n := 0) (by decide) rfl) $$ H; iintro H
  iapply (st_as m ρ K c (n := 1) (by decide) rfl) $$ H; iintro H
  iapply (st_as m ρ K c (n := 2) (by decide) rfl) $$ H; iintro H
  iapply (wp_done c)
  iapply Hk
  isplitl [H]; · iexact H
  isplitl [Hrow] <;> iassumption

end Cert.RunProof
end
end
-- ==== Proof.Body.lean ====
/-
The kernel's body on one device: its parts in order.
-/
module

public import proofs.«01_k».proof.Proof.PartsA
public import proofs.«01_k».proof.Proof.PartsB
public import proofs.«01_k».proof.Proof.PartsC
public import proofs.«01_k».proof.Proof.PartsD
public import proofs.«01_k».proof.Proof.PartsE

@[expose] public section

noncomputable section

namespace Cert.RunProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

set_option maxRecDepth 8000

/-- One program after another. -/
theorem wp_seq (c : Dev nD) {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  unfold WP; rw [wp_bind]

/-- What the body starts from and what it leaves, besides the staged inputs. -/
def pre (c : Dev nD) : sProp 𝕄 :=
  iprop(SigSt m ρ K c 0 ∗ cred (tallyAt (bC c) () 31) ∗ atPos ER (bC c) 0 ∅ 0 ∗ rsToks c ∗ agToks c
    ∗ crs c 1 (fun r => pr c r) ∗ ats c 1 (fun r => pr c r) ∗ crs c 3 (fun r => pr c r) ∗ ats c 3 (fun r => pr c r) ∗ ats c 0 fi ∗ ats c 2 fi
    ∗ own c cc0_stg0_0 (astg m ρ c) ∗ own c cc0_stg1_0 (bstg m ρ c) ∗ (∃ f, own c cc0_stg2_0 f)
    ∗ (∃ f, own c cc0_scratch0 f) ∗ (∃ f, own c cc0_scratch1 f) ∗ (∃ f, own c cc0_scratch3 f) ∗ (∃ f, rsP c c f) ∗ (∃ f, agP c c f))

def rest (c : Dev nD) : sProp 𝕄 :=
  iprop(semVal (bC c) 0 ∗ zeros c 0 fi ∗ zeros c 1 (fun r => pr c r) ∗ zeros c 3 (fun r => pr c r)
    ∗ own c cc0_stg0_0 (astg m ρ c) ∗ own c cc0_stg1_0 (bstg m ρ c) ∗ own c cc0_stg2_0 (OUT m ρ c)
    ∗ (∃ f, own c cc0_scratch0 f) ∗ (∃ f, own c cc0_scratch1 f) ∗ (∃ f, own c cc0_scratch2 f) ∗ (∃ f, own c cc0_scratch4 f))

def post (c : Dev nD) : sProp 𝕄 :=
  iprop(rest m ρ c ∗ records m ρ K ∗ (∃ W, owes (c : Thread nD τ) 0 W) ∗ zeros c 2 fi ∗ (∃ f, own c cc0_scratch3 f))

theorem part60 (c : Dev nD) {Q : _ → sProp 𝕄} :
    iprop(pre m ρ K c ∗ ((ASSt m ρ K c 30 ∗ redP m ρ c (left 31) ∗ rest m ρ c) -∗ Q c)) ⊢ WP c (onK (k0_part60 (F := F))) Q := by
  simp only [k0_part60_eq_skeleton]; unfold k0_part60_skel
  simp only [onK, Prog.pure_eq_ret]
  unfold pre
  iintro ⟨⟨H, Hbc, Hba, Hrt, Hat, Hcv, Hav, Hca, Haa, Has, Haas, Hx, Hy, Ho, Hp, Hb, Hr, Hrs, Hag⟩, Hk⟩
  iapply (wp_seq c); iapply (part1 m ρ K c); isplitl [H]; · iexact H
  iintro %a1 %b1 %d1 H; try dsimp only
  iapply (wp_seq c); iapply (part2 m ρ K c _ _ _); isplitl [H]; · iexact H
  iintro %a2 %b2 H; try dsimp only
  iapply (wp_seq c); iapply (part3 m ρ K c _ _ _); isplitl [H]; · iexact H
  iintro %a3 %b3 H; try dsimp only
  iapply (wp_seq c); iapply (part4 m ρ K c _ _ _); isplitl [H]; · iexact H
  iintro %a4 %b4 H; try dsimp only
  iapply (wp_seq c); iapply (part5 m ρ K c _ _ _); isplitl [H]; · iexact H
  iintro %a5 %b5 H; try dsimp only
  iapply (wp_seq c); iapply (part6 m ρ K c _ _ _)
  isplitl [H]; · iexact H
  isplitl [Hbc]; · iexact Hbc
  isplitl [Hba]; · iexact Hba
  isplitl [Hx]; · iexact Hx
  isplitl [Hy]; · iexact Hy
  isplitl [Hp]; · iexact Hp
  isplitl [Hb]; · iexact Hb
  iintro ⟨H, Hx, Hy, Hp, Hb⟩
  ihave ⟨H, Hbz, Hrow, Hpl⟩ := (rs_start m ρ K c) $$ [H Hb Hrt]
  · isplitl [H]; · iexact H
    isplitl [Hb] <;> iassumption
  iapply (wp_seq c); iapply (part7 m ρ K c _); isplitl [H]; · iexact H
  iintro %a7 %b7 H; try dsimp only
  iapply (wp_seq c); iapply (part8 m ρ K c _ _ _); isplitl [H]; · iexact H
  iintro %a8 H; try dsimp only
  iapply (wp_seq c); iapply (part9 m ρ K c _ _); isplitl [H]; · iexact H
  iintro H
  iapply (wp_seq c); iapply (part10 m ρ K c _); isplitl [H]; · iexact H
  iintro H
  iapply (wp_seq c); iapply (part11 m ρ K c _); isplitl [H]; · iexact H
  iintro %a11 H; try dsimp only
  iapply (wp_seq c); iapply (part12 m ρ K c _ _); isplitl [H]; · iexact H
  iintro H
  iapply (wp_seq c); iapply (part13 m ρ K c _); isplitl [H]; · iexact H
  iintro H
  iapply (wp_seq c); iapply (part14 m ρ K c _); isplitl [H]; · iexact H
  iintro %a14 %b14 H; try dsimp only
  iapply (wp_seq c); iapply (part15 m ρ K c _ _ _); isplitl [H]; · iexact H
  iintro %a15 H; try dsimp only
  iapply (wp_seq c); iapply (part16 m ρ K c _ _); isplitl [H]; · iexact H
  iintro H
  iapply (wp_seq c); iapply (part17 m ρ K c _); isplitl [H]; · iexact H
  iintro H
  iapply (wp_seq c); iapply (part18 m ρ K c _)
  isplitl [H]; · iexact H
  isplitl [Hp]; · iexact Hp
  isplitl [Hcv]; · iexact Hcv
  isplitl [Hav]; · iexact Hav
  iintro ⟨H, Hp, Hcs⟩
  iapply (wp_seq c); iapply (part19 m ρ K c _); isplitl [H]; · iexact H
  iintro %a19 %b19 H; try dsimp only
  iapply (wp_seq c); iapply (part20 m ρ K c _ _ _); isplitl [H]; · iexact H
  iintro %a20 H; try dsimp only
  iapply (wp_seq c); iapply (part21 m ρ K c _ _); isplitl [H]; · iexact H
  iintro %a21 H; try dsimp only
  iapply (wp_seq c); iapply (part22 m ρ K c _ _); isplitl [H]; · iexact H
  iintro %a22 H; try dsimp only
  iapply (wp_seq c); iapply (part23 m ρ K c _ _); isplitl [H]; · iexact H
  iintro %a23 H; try dsimp only
  iapply (wp_seq c); iapply (part24 m ρ K c _ _); isplitl [H]; · iexact H
  iintro %a24 H; try dsimp only
  iapply (wp_seq c); iapply (part25 m ρ K c _ _); isplitl [H]; · iexact H
  iintro H
  iapply (wp_seq c); iapply (part26 m ρ K c _); isplitl [H]; · iexact H
  iintro %a26 %b26 H; try dsimp only
  iapply (wp_seq c); iapply (part27 m ρ K c _ _ _); isplitl [H]; · iexact H
  iintro %a27 H; try dsimp only
  iapply (wp_seq c); iapply (part28 m ρ K c _ _); isplitl [H]; · iexact H
  iintro H
  iapply (wp_seq c); iapply (part29 m ρ K c _); isplitl [H]; · iexact H
  iintro %a29 H; try dsimp only
  iapply (wp_seq c); iapply (part30 m ρ K c _ _); isplitl [H]; · iexact H
  iintro %a30 H; try dsimp only
  iapply (wp_seq c); iapply (part31 m ρ K c _ _)
  isplitl [H]; · iexact H
  isplitl [Hr]; · iexact Hr
  iintro ⟨H, Hr⟩
  ihave ⟨HR, HO, Hvz, Hv⟩ := (wait_end m ρ K c 1 (fun r => pr c r) (oA c 0)) $$ H
  ihave Hrs := (rs_join m ρ c) $$ [Hrs Hv]
  · isplitl [Hrs] <;> iassumption
  ihave H := (ag_start m ρ K c) $$ [HR HO Hr Hpl Hat]
  · isplitl [HR]; · iexact HR
    isplitl [HO]; · iexact HO
    isplitl [Hr]; · iexact Hr
    isplitl [Hpl] <;> iassumption
  iapply (wp_seq c); iapply (part32 m ρ K c _); isplitl [H]; · iexact H
  iintro %a32 H; try dsimp only
  iapply (wp_seq c); iapply (part33 m ρ K c _ _); isplitl [H]; · iexact H
  iintro %a33 %b33 H; try dsimp only
  iapply (wp_seq c); iapply (part34 m ρ K c _ _ _); isplitl [H]; · iexact H
  iintro H
  iapply (wp_seq c); iapply (part35 m ρ K c _); isplitl [H]; · iexact H
  iintro %a35 H; try dsimp only
  iapply (wp_seq c); iapply (part36 m ρ K c _ _); isplitl [H]; · iexact H
  iintro %a36 %b36 H; try dsimp only
  iapply (wp_seq c); iapply (part37 m ρ K c _ _ _); isplitl [H]; · iexact H
  iintro H
  iapply (wp_seq c); iapply (part38 m ρ K c _); isplitl [H]; · iexact H
  iintro %a38 H; try dsimp only
  iapply (wp_seq c); iapply (part39 m ρ K c _ _); isplitl [H]; · iexact H
  iintro %a39 %b39 H; try dsimp only
  iapply (wp_seq c); iapply (part40 m ρ K c _ _ _); isplitl [H]; · iexact H
  iintro H
  iapply (wp_seq c); iapply (part41 m ρ K c _)
  isplitl [H]; · iexact H
  isplitl [Hag]; · iexact Hag
  isplitl [Hca]; · iexact Hca
  isplitl [Haa]; · iexact Haa
  iintro ⟨H, Hr, Hag, Hcas⟩
  iapply (wp_seq c); iapply (part42 m ρ K c _); isplitl [H]; · iexact H
  iintro H
  iapply (wp_seq c); iapply (part43 m ρ K c _); isplitl [H]; · iexact H
  iintro %a43 %b43 H; try dsimp only
  iapply (wp_seq c); iapply (part44 m ρ K c _ _ _); isplitl [H]; · iexact H
  iintro %a44 H; try dsimp only
  iapply (wp_seq c); iapply (part45 m ρ K c _ _); isplitl [H]; · iexact H
  iintro H
  iapply (wp_seq c); iapply (part46 m ρ K c _); isplitl [H]; · iexact H
  iintro H
  iapply (wp_seq c); iapply (part47 m ρ K c _); isplitl [H]; · iexact H
  iintro %a47 %b47 H; try dsimp only
  iapply (wp_seq c); iapply (part48 m ρ K c _ _ _); isplitl [H]; · iexact H
  iintro %a48 H; try dsimp only
  iapply (wp_seq c); iapply (part49 m ρ K c _ _)
  isplitl [H]; · iexact H
  isplitl [Hag]; · iexact Hag
  isplitl [Ho]; · iexact Ho
  isplitl [Hcs]; · iexact Hcs
  isplitl [Has]; · iexact Has
  iintro ⟨H, Hag, Ho, Haz⟩
  iapply (wp_seq c); iapply (part50 m ρ K c); isplitl [H]; · iexact H
  iintro H
  iapply (wp_seq c); iapply (part51 m ρ K c); isplitl [H]; · iexact H
  iintro H
  iapply (wp_seq c); iapply (part52 m ρ K c); isplitl [H]; · iexact H
  iintro H
  iapply (wp_seq c); iapply (part53 m ρ K c); isplitl [H]; · iexact H
  iintro H
  iapply (wp_seq c); iapply (part54 m ρ K c); isplitl [H]; · iexact H
  iintro H
  iapply (wp_seq c); iapply (part55 m ρ K c)
  isplitl [H]; · iexact H
  isplitl [Hrow]; · iexact Hrow
  isplitl [Hcas]; · iexact Hcas
  isplitl [Haas]; · iexact Haas
  iintro ⟨H, Hb, Hsz⟩
  iapply (wp_seq c); iapply (part56 m ρ K c); isplitl [H]; · iexact H
  iintro H
  iapply (wp_seq c); iapply (part57 m ρ K c); isplitl [H]; · iexact H
  iintro H
  iapply (wp_seq c); iapply (part58 m ρ K c); isplitl [H]; · iexact H
  iintro H
  iapply (wp_seq c); iapply (part59 m ρ K c); isplitl [H]; · iexact H
  iintro H
  iapply (wp_done c)
  iapply Hk
  isplitl [H]; · iexact H
  isplitl [Hr]; · iexact Hr
  unfold rest
  isplitl [Hbz]; · iexact Hbz
  isplitl [Hsz]; · iexact Hsz
  isplitl [Hvz]; · iexact Hvz
  isplitl [Haz]; · iexact Haz
  isplitl [Hx]; · iexact Hx
  isplitl [Hy]; · iexact Hy
  isplitl [Ho]; · iexact Ho
  isplitl [Hp]; · iexists _; iexact Hp
  isplitl [Hb]; · iexists _; iexact Hb
  isplitl [Hrs]; · iexact Hrs
  iexists _; iexact Hag

/-- The body on device `c`. -/
theorem run_body (c : Dev nD) {Q : _ → sProp 𝕄} :
    iprop(pre m ρ K c ∗ (post m ρ K c -∗ Q ⟨⟩)) ⊢ WP c (onK (cc0_body (F := F))) Q := by
  simp only [cc0_body_eq_skeleton]; unfold cc0_body_skel
  simp only [onK, Prog.lift, Prog.pure_eq_ret]
  iintro ⟨Hpre, Hk⟩
  iapply (wp_seq c); iapply (part60 m ρ K c)
  isplitl [Hpre]; · iexact Hpre
  iintro ⟨H, Hr, Hrest⟩
  simp only [Prog.bind_op, Prog.bind_ret]
  iapply (st_as m ρ K c (n := 30) (by decide) rfl) $$ H; iintro H
  ihave ⟨HR, HO, Hz, Hp⟩ := (wait_end m ρ K c 2 fi 0) $$ H
  ihave Hr := (red_back m ρ c) $$ [Hr Hp]
  · isplitl [Hr] <;> iassumption
  iapply (wp_done c)
  iapply Hk
  unfold post
  isplitl [Hrest]; · iexact Hrest
  isplitl [HR]; · iexact HR
  isplitl [HO]; · iexact HO
  isplitl [Hz]; · iexact Hz
  iexists _; iexact Hr

end Cert.RunProof
end
end
-- ==== Proof.Ghost.lean ====
/-
How the cells are made at the launch, and how their duties and credits are dealt to the devices.
-/
module

public import proofs.«01_k».proof.Proof.Phases

@[expose] public section

noncomputable section

namespace Cert.RunProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

set_option maxRecDepth 8000

/-! ## Families over the devices and the cells -/

section Big
variable {M : Type} [URA M]

theorem big_flip (Φ : ℕ → sProp M) : bigSep (Finset.Ico 0 31) Φ = bigSep (Finset.Ico 0 31) fun r => Φ (30 - r) := by
  have e : (Finset.Ico 0 31).image (fun r => 30 - r) = Finset.Ico 0 31 := by decide
  conv_lhs => rw [← e]
  refine big_image _ _ (fun x hx y hy h => ?_) Φ
  have h1 := (Finset.mem_Ico.mp (Finset.mem_coe.mp hx)).2
  have h2 := (Finset.mem_Ico.mp (Finset.mem_coe.mp hy)).2
  have h : 30 - x = 30 - y := h
  omega

theorem big_ico (Φ : ℕ → sProp M) : bigSep (Finset.Ico 0 31) Φ = bigSep Finset.univ fun d : Fin 31 => Φ d.val := by
  have e : (Finset.univ : Finset (Fin 31)).map Fin.valEmbedding = Finset.Ico 0 31 := by decide
  rw [← e, bigSep_map]; rfl

/-- The devices moved `r + 1` places. -/
def step (r : ℕ) : Dev nD ≃ Dev nD := Equiv.ofBijective (fun c => pr c r) (Finite.injective_iff_bijective.mp fun a b h => by
  have h : (pr a r).val = (pr b r).val := congrArg Fin.val h
  have h1 := a.isLt; have h2 := b.isLt; simp only [nD] at h1 h2
  rw [pr_val, pr_val] at h
  exact Fin.ext (by omega))

theorem step_apply (r : ℕ) (c : Dev nD) : step r c = pr c r := rfl

theorem around (Φ : ℕ → Dev nD → sProp M) : (bigSep Finset.univ fun c : Dev nD => bigSep (Finset.Ico 0 31) fun r => Φ r c)
    = bigSep Finset.univ fun c : Dev nD => bigSep (Finset.Ico 0 31) fun r => Φ r (pr c r) := by
  rw [bigSep_congr fun (c : Dev nD) _ => big_ico fun r => Φ r c, bigSep_congr fun (c : Dev nD) _ => big_ico fun r => Φ r (pr c r)]
  refine (bigSep_univ_comm (fun (c : Dev nD) (d : Fin 31) => Φ d.val c)).trans (Eq.trans ?_ (bigSep_univ_comm (fun (d : Fin 31) (c : Dev nD) => Φ d.val (pr c d.val))))
  exact bigSep_congr fun d _ => bigSep_univ_equiv (step d.val) (Φ d.val)

theorem pr_fi (r : ℕ) : pr (0 : Dev nD) r = fi r := Fin.ext (by rw [pr_val]; show ((0 : Dev nD).val + r + 1) % 32 = (r + 1) % 32; rw [show ((0 : Dev nD).val) = 0 from rfl, Nat.zero_add])

/-- A device's cells: its barrier, and of each of its four arrays the unused cell and the 31 others. -/
theorem split_ci (c : Dev nD) (Φ : CI → sProp M) : bigSep Finset.univ Φ = iprop(Φ none
    ∗ (Φ (some (0, 0)) ∗ bigSep (Finset.Ico 0 31) fun r => Φ (some (0, fi r)))
    ∗ (Φ (some (1, c)) ∗ bigSep (Finset.Ico 0 31) fun r => Φ (some (1, pr c r)))
    ∗ (Φ (some (2, 0)) ∗ bigSep (Finset.Ico 0 31) fun r => Φ (some (2, fi r)))
    ∗ (Φ (some (3, c)) ∗ bigSep (Finset.Ico 0 31) fun r => Φ (some (3, pr c r)))) := by
  have e : (Finset.univ : Finset CI).erase none = (Finset.univ : Finset (Fin 4 × Fin 32)).map Function.Embedding.some := by
    ext i; cases i
    · simp
    · simp
  rw [bigSep_univ_at Φ none, e, bigSep_map, bigSep_univ_prod, bigSep_univ_eq_bigSepL [0, 1, 2, 3] (by decide) (by decide)]
  have h0 (k : Fin 4) : (bigSep Finset.univ fun i : Fin 32 => Φ (some (k, i))) = iprop(Φ (some (k, 0)) ∗ bigSep (Finset.Ico 0 31) fun r => Φ (some (k, fi r))) := by
    refine (big_peers (0 : Dev nD) fun i => Φ (some (k, i))).trans ?_
    rw [bigSep_congr fun r _ => by rw [pr_fi]]
  have h1 (k : Fin 4) : (bigSep Finset.univ fun i : Fin 32 => Φ (some (k, i))) = iprop(Φ (some (k, c)) ∗ bigSep (Finset.Ico 0 31) fun r => Φ (some (k, pr c r))) :=
    big_peers c fun i => Φ (some (k, i))
  rw [← h0 0, ← h1 1, ← h0 2, ← h1 3]
  rfl

end Big

/-! ## What is minted -/

abbrev tokOf (x : (Dev nD × CI) × Fin 31) : GSem nD τ sig × ℕ × ℕ := (kcell x.1, 0, x.2.val)
theorem tokOf_inj : Function.Injective tokOf := fun a b h =>
  Prod.ext (kcell_inj (congrArg Prod.fst h)) (Fin.ext (congrArg (fun x : GSem nD τ sig × ℕ × ℕ => x.2.2) h))

def allCells : Finset (GSem nD τ sig) := Finset.univ.map ⟨kcell, kcell_inj⟩
def allToks : Finset (GSem nD τ sig × ℕ × ℕ) := Finset.univ.map ⟨tokOf, tokOf_inj⟩

def u₀ : UU := (initOf (Pipeline.cells cfgs cellOf_inj) (Pipeline.launchToks cfgs cellOf_inj), initOf allCells allToks)

/-- The duty tokens of device `c`'s own cells, as minted. -/
def mint (c : Dev nD) : sProp 𝕄 := bigSep Finset.univ fun i : CI => bigSep Finset.univ fun d : Fin 31 => dutyTok ER (gc c i) 0 d.val

def G (c : Dev nD) : sProp 𝕄 :=
  iprop((bigSep Finset.univ fun i : CI => roundState ER (sched m ρ) (gc c i) 0)
    ∗ (bigSep Finset.univ fun i : CI => atPos ER (gc c i) 0 ∅ 0) ∗ (bigSep Finset.univ fun i : CI => reached ER (gc c i) 0) ∗ mint c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : CI => Φ (gc c i) := by
    unfold allCells; rw [bigSep_map, bigSep_univ_prod]; rfl
  have hT : bigSep allToks (fun x => (dutyTok ER x.1 x.2.1 x.2.2 : sProp 𝕄)) = bigSep Finset.univ fun c : Dev nD => mint c := by
    unfold allToks; rw [bigSep_map, bigSep_univ_prod, bigSep_univ_prod]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The semaphores -/

abbrev own0 (c : Dev nD) : sProp 𝕄 := Pipeline.ownSems0 (Ix := Unit) (Name := ℕ) (U := UU) (Lvl := ℕ) (Val := Elt F) (τ := τ) osem c

omit [FloatOps F] in
theorem unscopedSems0_eq (c : Dev nD) : (unscopedSems0 c : sProp 𝕄) = semVal (bC c) 0 := by
  unfold unscopedSems0; rw [bigSep_eq_bigSepL_of_eq [SemLoc.reg barS] (by decide) (by decide)]; rfl

omit [FloatOps F] in
theorem sems0_eq (c : Dev nD) : (bigSep Finset.univ fun i : CI => semVal (gc c i) 0 : sProp 𝕄) = iprop(semVal (bC c) 0 ∗ own0 c) := by
  have e : (Finset.univ : Finset CI).erase none = (Finset.univ : Finset (Fin 4 × Fin 32)).map Function.Embedding.some := by
    ext i; cases i
    · simp
    · simp
  rw [bigSep_univ_at _ none, e, bigSep_map]; rfl

theorem core_alloc (c : Dev nD) :
    iprop(own0 c ∗ unscopedSems0 c ∗ G m ρ c)
      ⊢ |={Set.univ}=> iprop((bigSep Finset.univ fun i : CI => iprop(∃ κ : ℕ, cellInv ER (sched m ρ) κ (gc c i)))
          ∗ (bigSep Finset.univ fun i : CI => atPos ER (gc c i) 0 ∅ 0) ∗ (bigSep Finset.univ fun i : CI => reached ER (gc c i) 0) ∗ mint c) := by
  rw [unscopedSems0_eq]
  unfold G
  iintro ⟨Hos, Hus, Hst, Hat, Hr, Htok⟩
  ihave Hv := (Entails.of_eq (sems0_eq (F := F) c).symm) $$ [Hos Hus]
  · isplitl [Hus] <;> iassumption
  imod (show iprop((bigSep Finset.univ fun i : CI => semVal (gc c i) 0) ∗ bigSep Finset.univ fun i : CI => roundState ER (sched m ρ) (gc c i) 0)
      ⊢ (|={Set.univ}=> bigSep Finset.univ fun i : CI => iprop(∃ κ : ℕ, cellInv ER (sched m ρ) κ (gc c i)) : sProp 𝕄) from by
        rw [← bigSep_sep']
        exact (bigSep_mono fun i _ => (Rounds.body_intro ER (sched m ρ) (gc c i)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-! ## The tokens dealt to those who pay -/

/-- The tokens of device `c`'s own cells that are used. -/
def ownToks (c : Dev nD) : sProp 𝕄 :=
  iprop((bigSep (Finset.Ico 0 31) fun r => dutyTok ER (bC c) 0 r)
    ∗ (bigSep (Finset.Ico 0 31) fun r => dutyTok ER (sC c r) 0 0) ∗ (bigSep (Finset.Ico 0 31) fun r => dutyTok ER (vC c (pr c r)) 0 0)
    ∗ (bigSep (Finset.Ico 0 31) fun r => dutyTok ER (asC c r) 0 0) ∗ (bigSep (Finset.Ico 0 31) fun r => dutyTok ER (avC c (pr c r)) 0 0))
/-- The tokens of the duties device `c` pays. -/
def payToks (c : Dev nD) : sProp 𝕄 :=
  iprop((bigSep (Finset.Ico 0 31) fun r => dutyTok ER (bC (pr c r)) 0 (30 - r)) ∗ rsToks c ∗ agToks c)

omit [FloatOps F] in
theorem tok_first (c : Dev nD) (ix : ℕ → CI) : (bigSep (Finset.Ico 0 31) fun r => bigSep Finset.univ fun d : Fin 31 => (dutyTok ER (gc c (ix r)) 0 d.val : sProp 𝕄))
    ⊢ bigSep (Finset.Ico 0 31) fun r => dutyTok ER (gc c (ix r)) 0 0 :=
  bigSep_mono fun r _ => bigSep_elim (Φ := fun d : Fin 31 => dutyTok ER (gc c (ix r)) 0 d.val) (Finset.mem_univ (0 : Fin 31))

omit [FloatOps F] in
theorem mint_own (c : Dev nD) : (mint c : sProp 𝕄) ⊢ ownToks c := by
  unfold mint ownToks
  rw [split_ci c, big_ico fun r => dutyTok ER (bC c) 0 r]
  iintro ⟨Hb, ⟨-, H0⟩, ⟨-, H1⟩, ⟨-, H2⟩, -, H3⟩
  isplitl [Hb]; · iexact Hb
  isplitl [H0]; · iapply (tok_first (F := F) c fun r => some (0, fi r)) $$ H0
  isplitl [H1]; · iapply (tok_first (F := F) c fun r => some (1, pr c r)) $$ H1
  isplitl [H2]; · iapply (tok_first (F := F) c fun r => some (2, fi r)) $$ H2
  iapply (tok_first (F := F) c fun r => some (3, pr c r)) $$ H3

omit [FloatOps F] in
theorem recv_around (k : Fin 4) : (bigSep Finset.univ fun c : Dev nD => bigSep (Finset.Ico 0 31) fun r => (dutyTok ER (gc c (some (k, pr c r))) 0 0 : sProp 𝕄))
    = bigSep Finset.univ fun c : Dev nD => bigSep (Finset.Ico 0 31) fun r => dutyTok ER (gc (pr c r) (some (k, c))) 0 0 := by
  rw [bigSep_congr fun (c : Dev nD) _ => big_flip fun r => (dutyTok ER (gc c (some (k, pr c r))) 0 0 : sProp 𝕄)]
  refine (around fun r c => (dutyTok ER (gc c (some (k, pr c (30 - r)))) 0 0 : sProp 𝕄)).trans ?_
  exact bigSep_congr fun c _ => bigSep_congr fun r hr => by rw [pr_back (Finset.mem_Ico.mp hr).2]

omit [FloatOps F] in
theorem pair5 (A B C D E : sProp 𝕄) : iprop(A ∗ B ∗ C ∗ D ∗ E) ⊢ iprop(A ∗ (B ∗ C) ∗ D ∗ E) := by
  iintro ⟨H, H0, H1, H2, H3⟩
  isplitl [H]; · iexact H
  isplitl [H0 H1]
  · isplitl [H0] <;> iassumption
  isplitl [H2] <;> iassumption

omit [FloatOps F] in
theorem toks_around : (bigSep Finset.univ fun c : Dev nD => (mint c : sProp 𝕄)) ⊢ bigSep Finset.univ fun c : Dev nD => payToks c := by
  refine (bigSep_mono fun c _ => mint_own c).trans ?_
  unfold ownToks payToks rsToks agToks
  simp only [bigSep_sep']
  rw [recv_around 1, recv_around 3, bigSep_congr fun (c : Dev nD) _ => big_flip fun r => (dutyTok ER (bC c) 0 r : sProp 𝕄),
    around fun r c => (dutyTok ER (bC c) 0 (30 - r) : sProp 𝕄)]
  exact pair5 _ _ _ _ _

/-- What stays with device `c` beside the shared records. -/
def linear (c : Dev nD) : sProp 𝕄 := iprop((bigSep Finset.univ fun i : CI => atPos ER (gc c i) 0 ∅ 0) ∗ payToks c)
def shared (K : Dev nD × CI → ℕ) : sProp 𝕄 :=
  iprop((bigSep Finset.univ fun x : Dev nD × CI => cellInv ER (sched m ρ) (K x) (kcell x)) ∗ bigSep Finset.univ fun x : Dev nD × CI => reached ER (kcell x) 0)
instance shared_persistent (K : Dev nD × CI → ℕ) : BI.Persistent (shared m ρ K) := by unfold shared; infer_instance

def G' (c : Dev nD) : sProp 𝕄 := iprop(∃ K, shared m ρ K ∗ linear c)

theorem ghost_intro (K : Dev nD × CI → ℕ) (c : Dev nD) : iprop(shared m ρ K ∗ linear c) ⊢ G' m ρ c := by
  unfold G'; iintro H; iexists K; iexact H

omit [FloatOps F] in
theorem big_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']; exact bigSep_mono h

theorem regroup :
    (bigSep Finset.univ fun c : Dev nD => iprop((bigSep Finset.univ fun i : CI => iprop(∃ κ : ℕ, cellInv ER (sched m ρ) κ (gc c i)))
          ∗ (bigSep Finset.univ fun i : CI => atPos ER (gc c i) 0 ∅ 0) ∗ (bigSep Finset.univ fun i : CI => reached ER (gc c i) 0) ∗ mint c) : sProp 𝕄)
      ⊢ bigSep Finset.univ (G' m ρ) := by
  rw [bigSep_sep', bigSep_sep', bigSep_sep', ← bigSep_univ_prod (fun x : Dev nD × CI => iprop(∃ κ : ℕ, cellInv ER (sched m ρ) κ (kcell x))),
    ← bigSep_univ_prod (fun x : Dev nD × CI => (reached ER (kcell x) 0 : sProp 𝕄))]
  iintro ⟨HI, Hat, #HR, Htok⟩
  ihave HK := (BI.bigSep_exists_pi Finset.univ (fun (x : Dev nD × CI) (κ : ℕ) => (cellInv ER (sched m ρ) κ (kcell x) : sProp 𝕄))) $$ HI
  icases HK with ⟨%K, #HI⟩
  ihave Htk := (toks_around (F := F)) $$ Htok
  iapply (big_with (R := shared m ρ K) fun c _ => ghost_intro m ρ K c)
  isplitr
  · unfold shared; isplitl; · iexact HI
    iexact HR
  · unfold linear; rw [bigSep_sep']
    isplitl [Hat]; · iexact Hat
    iexact Htk

/-- Every device's semaphores at once become the cells. -/
theorem glob : (bigSep Finset.univ fun c => iprop(own0 c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit the launch deals -/

theorem tally_sum (f : ℕ → GSem nD τ sig) (a : ℕ) (g : GSem nD τ sig) :
    (∑ r ∈ Finset.Ico 0 31, (tallyAt (f r) () a : CellTallies nD τ sig Unit)) g () = ∑ r ∈ Finset.Ico 0 31, if g = f r then a else 0 := by
  rw [Finset.sum_apply, Finsupp.finset_sum_apply]
  refine Finset.sum_congr rfl fun r _ => ?_
  rw [tallyAt_apply]
  by_cases h : g = f r
  · rw [if_pos ⟨h, rfl⟩, if_pos h]
  · rw [if_neg fun h' => h h'.1, if_neg h]

theorem gc_eq {c d : Dev nD} {i j : CI} (h : gc c i = gc d j) : c = d ∧ i = j :=
  ⟨congrArg (fun x : Dev nD × CI => x.1) (@kcell_inj (c, i) (d, j) h), congrArg (fun x : Dev nD × CI => x.2) (@kcell_inj (c, i) (d, j) h)⟩

theorem owed_none (c : Dev nD) (k : Fin 4) (f : Dev nD → ℕ → GSem nD τ sig) (a : ℕ) (g : GSem nD τ sig) (h : ∀ d r, g ≠ f d r) :
    ∑ d : Dev nD, (∑ r ∈ Finset.Ico 0 31, (tallyAt (f d r) () a : CellTallies nD τ sig Unit)) g () = 0 := by
  refine Finset.sum_eq_zero fun d _ => ?_
  rw [tally_sum]
  exact Finset.sum_eq_zero fun r _ => if_neg (h d r)

theorem owed_bar (c : Dev nD) :
    ∑ d : Dev nD, (∑ r ∈ Finset.Ico 0 31, (tallyAt (bC (pr d r)) () 1 : CellTallies nD τ sig Unit)) (bC c) () = 31 := by
  rw [Finset.sum_congr rfl fun d _ => tally_sum (fun r => bC (pr d r)) 1 (bC c), Finset.sum_comm]
  have h (r : ℕ) : (∑ d : Dev nD, if bC c = bC (pr d r) then 1 else 0) = 1 := by
    have e : (∑ d : Dev nD, if bC c = bC (pr d r) then 1 else 0) = ∑ d : Dev nD, (fun d : Dev nD => if c = d then 1 else 0) (step r d) :=
      Finset.sum_congr rfl fun d _ => by
        rw [step_apply]
        by_cases h : c = pr d r
        · exact (if_pos (by rw [← h])).trans (if_pos h).symm
        · exact (if_neg fun h' => h (gc_eq h').1).trans (if_neg h).symm
    rw [e, Equiv.sum_comp (step r) (fun d : Dev nD => if c = d then 1 else 0), Finset.sum_ite_eq, if_pos (Finset.mem_univ _)]
  rw [Finset.sum_congr rfl fun r _ => h r, Finset.sum_const]; rfl

theorem owed_recv (k : Fin 4) {c s : Dev nD} (hs : s ≠ c) :
    ∑ d : Dev nD, (∑ r ∈ Finset.Ico 0 31, (tallyAt (gc (pr d r) (some (k, d))) () N : CellTallies nD τ sig Unit)) (gc c (some (k, s))) () = N := by
  rw [Finset.sum_eq_single s]
  · rw [tally_sum (fun r => gc (pr s r) (some (k, s)))]
    obtain ⟨r, hr, e⟩ := exists_pr (Ne.symm hs)
    rw [Finset.sum_eq_single r]
    · rw [if_pos (by rw [← e])]
    · intro r' hr' hne
      exact if_neg fun h => hne (pr_inj (Finset.mem_Ico.mp hr').2 hr ((gc_eq h).1.symm.trans e))
    · intro h; exact absurd (Finset.mem_Ico.mpr ⟨Nat.zero_le _, hr⟩) h
  · intro d _ hd
    rw [tally_sum (fun r => gc (pr d r) (some (k, d)))]
    refine Finset.sum_eq_zero fun r _ => if_neg fun h => hd ?_
    exact (congrArg Prod.snd (Option.some.inj (gc_eq h).2)).symm
  · intro h; exact absurd (Finset.mem_univ _) h

theorem owed_split (g : GSem nD τ sig) : ∑ d : Dev nD, O₀ d g () = (∑ d : Dev nD, oA d 0 g ()) + (∑ d : Dev nD, oV d 0 g ()) + ∑ d : Dev nD, oB d 0 g () := by
  rw [← Finset.sum_add_distrib, ← Finset.sum_add_distrib]; rfl

theorem some_ne {k k' : Fin 4} {c d : Dev nD} {i j : Fin 32} (h : k ≠ k') : gc c (some (k, i)) ≠ gc d (some (k', j)) :=
  fun e => h (congrArg Prod.fst (Option.some.inj (gc_eq e).2))

theorem none_ne {c d : Dev nD} {i : Fin 4 × Fin 32} : gc c none ≠ gc d (some i) :=
  fun e => Option.some_ne_none i (gc_eq e).2.symm

theorem total_bar (c : Dev nD) : ∑ d : Dev nD, O₀ d (bC c) () = 31 := by
  rw [owed_split]; unfold oA oV oB
  rw [owed_bar, owed_none c 0 (fun d r => avC (pr d r) d) N _ (fun d r => none_ne),
    owed_none c 0 (fun d r => vC (pr d r) d) N _ (fun d r => none_ne)]
theorem total_v {c s : Dev nD} (hs : s ≠ c) : ∑ d : Dev nD, O₀ d (vC c s) () = N := by
  rw [owed_split]; unfold oA oV oB
  rw [owed_recv 1 hs, owed_none c 0 (fun d r => avC (pr d r) d) N _ (fun d r => some_ne (by decide)),
    owed_none c 0 (fun d r => bC (pr d r)) 1 _ (fun d r => none_ne.symm), Nat.zero_add, Nat.add_zero]
theorem total_av {c s : Dev nD} (hs : s ≠ c) : ∑ d : Dev nD, O₀ d (avC c s) () = N := by
  rw [owed_split]; unfold oA oV oB
  rw [owed_recv 3 hs, owed_none c 0 (fun d r => vC (pr d r) d) N _ (fun d r => some_ne (by decide)),
    owed_none c 0 (fun d r => bC (pr d r)) 1 _ (fun d r => none_ne.symm), Nat.add_zero]

theorem launch_at {g : GSem nD τ sig} {a : ℕ} (h : ∑ d : Dev nD, O₀ d g () = a) :
    tallyOn g (launchCredit (Pipeline.owing O₀) 0 g) = (tallyAt g () a : CellTallies nD τ sig Unit) := by
  unfold tallyAt; refine congrArg _ (Finsupp.ext fun u => ?_); cases u
  rw [Pipeline.launchCredit_owing, Finsupp.single_eq_same, h]

omit [FloatOps F] in
theorem creds (c : Dev nD) : (Pipeline.launchCred O₀ c : sProp 𝕄)
    ⊢ iprop(cred (tallyAt (bC c) () 31) ∗ crs c 1 (fun r => pr c r) ∗ crs c 3 (fun r => pr c r)) := by
  have h1 : (Pipeline.launchCred O₀ c : sProp 𝕄) ⊢ bigSep Finset.univ fun i : CI => cred (tallyOn (gc c i) (launchCredit (Pipeline.owing O₀) 0 (gc c i))) := by
    unfold Pipeline.launchCred
    refine (bigSep_subset (Finset.subset_univ ((Finset.univ : Finset CI).map ⟨csem, csem_inj⟩))).trans ?_
    rw [bigSep_map]; exact BI.Entails.refl _
  have h2 : (bigSep (Finset.Ico 0 31) fun r => (cred (tallyOn (vC c (pr c r)) (launchCredit (Pipeline.owing O₀) 0 (vC c (pr c r)))) : sProp 𝕄))
      = crs c 1 (fun r => pr c r) := by
    unfold crs; exact bigSep_congr fun r hr => by rw [launch_at (total_v (pr_ne (Finset.mem_Ico.mp hr).2))]
  have h3 : (bigSep (Finset.Ico 0 31) fun r => (cred (tallyOn (avC c (pr c r)) (launchCredit (Pipeline.owing O₀) 0 (avC c (pr c r)))) : sProp 𝕄))
      = crs c 3 (fun r => pr c r) := by
    unfold crs; exact bigSep_congr fun r hr => by rw [launch_at (total_av (pr_ne (Finset.mem_Ico.mp hr).2))]
  refine h1.trans ?_
  rw [split_ci c, launch_at (total_bar c), h2, h3]
  iintro ⟨Hb, -, ⟨-, H1⟩, -, -, H3⟩
  isplitl [Hb]; · iexact Hb
  isplitl [H1] <;> iassumption

end Cert.RunProof
end
end
-- ==== Proof.Launch.lean ====
/-
The launch of the kernel on the 32 devices and what the run leaves.
-/
module

public import proofs.«01_k».proof.Proof.Body
public import proofs.«01_k».proof.Proof.Ghost
public import Idealize.ShloMosaic.Lib.Pipeline.CollectiveSegs

@[expose] public section

noncomputable section

namespace Cert.RunProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

set_option maxRecDepth 100000

/-! ## The pipeline's proof data -/

/-- What device `c` starts from. -/
def start (c : Dev nD) : sProp 𝕄 :=
  iprop(G' m ρ c ∗ (cred (tallyAt (bC c) () 31) ∗ crs c 1 (fun r => pr c r) ∗ crs c 3 (fun r => pr c r)) ∗ levAts L lv)

/-- The five scratch buffers, at whatever they hold. -/
def bufs (c : Dev nD) : sProp 𝕄 :=
  iprop((∃ f, own c cc0_scratch0 f) ∗ (∃ f, own c cc0_scratch1 f) ∗ (∃ f, own c cc0_scratch2 f) ∗ (∃ f, own c cc0_scratch3 f) ∗ (∃ f, own c cc0_scratch4 f))

def Φ₀ (c : Dev nD) : sProp 𝕄 := iprop(start m ρ c ∗ bufs c)
def Φ₁ (c : Dev nD) : sProp 𝕄 := iprop(bufs c ∗ bigSep Finset.univ fun i : CI => semVal (gc c i) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => astg m ρ c
    | ⟨1, _⟩ => bstg m ρ c
    | ⟨2, _⟩ => OUT m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ own c b f)

theorem close_hole (c : Dev nD) (k : Fin 4) (i : Fin 32) (h : i = hole c k) :
    iprop(records m ρ K ∗ atPos ER (gc c (some (k, i))) 0 ∅ 0) ⊢ (|={Set.univ}=> semVal (gc c (some (k, i))) 0 : sProp 𝕄) := by
  subst h
  iintro ⟨HR, Hat⟩
  ihave HI := (inv_at m ρ K c (some (k, hole c k))) $$ HR
  imod (Rounds.cell_close ER (sched m ρ) (Set.mem_univ (K (c, some (k, hole c k)))) (fun h => h) (R := 0) (fun r _ => duties_hole m ρ c k r)) $$ [HI Hat] with Hz
  · isplitl [HI] <;> iassumption
  imodintro; iexact Hz

/-- The unused cells of device `c`, at zero. -/
def unused (c : Dev nD) : sProp 𝕄 :=
  iprop(semVal (gc c (some (0, 0))) 0 ∗ semVal (gc c (some (1, c))) 0 ∗ semVal (gc c (some (2, 0))) 0 ∗ semVal (gc c (some (3, c))) 0)

/-- What device `c` starts from, with its scratch buffers and its staged windows, is what the body asks. -/
theorem pre_intro (c : Dev nD) :
    iprop(shared m ρ K ∗ linear c ∗ (cred (tallyAt (bC c) () 31) ∗ crs c 1 (fun r => pr c r) ∗ crs c 3 (fun r => pr c r)) ∗ levAts L lv ∗ bufs c
      ∗ (∃ W, owes (c : Thread nD τ) (O₀ c) W) ∗ own c cc0_stg0_0 (astg m ρ c) ∗ own c cc0_stg1_0 (bstg m ρ c) ∗ (∃ f, own c cc0_stg2_0 f))
      ⊢ (|={Set.univ}=> iprop(unused c ∗ pre m ρ K c) : sProp 𝕄) := by
  have hrec : iprop(shared m ρ K ∗ levAts L lv) ⊢ records m ρ K := by
    unfold shared records levels
    iintro ⟨⟨H1, H2⟩, H3⟩
    isplitl [H1]; · iexact H1
    isplitl [H2] <;> iassumption
  unfold linear payToks bufs
  rw [split_ci c]
  iintro ⟨HS, ⟨⟨Hab, ⟨Hh0, Ha0⟩, ⟨Hh1, Ha1⟩, ⟨Hh2, Ha2⟩, Hh3, Ha3⟩, Htb, Htr, Hta⟩, ⟨Hcb, Hc1, Hc3⟩, HL, ⟨Hs0, Hs1, Hs2, Hs3, Hs4⟩, HO, Hx, Hy, Ho⟩
  ihave #HR := hrec $$ [HS HL]
  · isplitl [HS] <;> iassumption
  imod (close_hole m ρ K c 0 0 rfl) $$ [Hh0] with Hz0
  · isplitr; · iexact HR
    iexact Hh0
  imod (close_hole m ρ K c 1 c rfl) $$ [Hh1] with Hz1
  · isplitr; · iexact HR
    iexact Hh1
  imod (close_hole m ρ K c 2 0 rfl) $$ [Hh2] with Hz2
  · isplitr; · iexact HR
    iexact Hh2
  imod (close_hole m ρ K c 3 c rfl) $$ [Hh3] with Hz3
  · isplitr; · iexact HR
    iexact Hh3
  ihave ⟨Hrs, Hrss⟩ := (rs_slots (F := F) c) $$ Hs2
  ihave ⟨Hag, Hags⟩ := (ag_slots (F := F) c) $$ Hs4
  imodintro
  isplitl [Hz0 Hz1 Hz2 Hz3]
  · unfold unused
    isplitl [Hz0]; · iexact Hz0
    isplitl [Hz1]; · iexact Hz1
    isplitl [Hz2] <;> iassumption
  unfold pre SigSt places ats
  simp only [bigSep_sep']
  isplitl [HO Htb Hrss Hags]
  · isplitr; · iexact HR
    isplitl [HO]; · iexact HO
    isplitl [Htb]; · iexact Htb
    isplitl [Hrss] <;> iassumption
  isplitl [Hcb]; · iexact Hcb
  isplitl [Hab]; · iexact Hab
  isplitl [Htr]; · iexact Htr
  isplitl [Hta]; · iexact Hta
  isplitl [Hc1]; · iexact Hc1
  isplitl [Ha1]; · iexact Ha1
  isplitl [Hc3]; · iexact Hc3
  isplitl [Ha3]; · iexact Ha3
  isplitl [Ha0]; · iexact Ha0
  isplitl [Ha2]; · iexact Ha2
  isplitl [Hx]; · iexact Hx
  isplitl [Hy]; · iexact Hy
  isplitl [Ho]; · iexact Ho
  isplitl [Hs0]; · iexact Hs0
  isplitl [Hs1]; · iexact Hs1
  isplitl [Hs3]; · iexact Hs3
  isplitl [Hrs] <;> iassumption

/-- What the body leaves, with the unused cells, is what the point passes on. -/
theorem post_elim (c : Dev nD) : iprop(unused c ∗ post m ρ K c) ⊢ iprop(Φ₁ c ∗ (∃ W, owes (c : Thread nD τ) 0 W)
      ∗ own c cc0_stg0_0 (astg m ρ c) ∗ own c cc0_stg1_0 (bstg m ρ c) ∗ own c cc0_stg2_0 (OUT m ρ c)) := by
  unfold unused post rest Φ₁ bufs zeros
  rw [split_ci c]
  iintro ⟨⟨Hz0, Hz1, Hz2, Hz3⟩, ⟨Hb, Hk0, Hk1, Hk3, Hx, Hy, Ho, Hs0, Hs1, Hs2, Hs4⟩, -, HO, Hk2, Hs3⟩
  isplitr [HO Hx Hy Ho]
  · isplitl [Hs0 Hs1 Hs2 Hs3 Hs4]
    · isplitl [Hs0]; · iexact Hs0
      isplitl [Hs1]; · iexact Hs1
      isplitl [Hs2]; · iexact Hs2
      isplitl [Hs3] <;> iassumption
    isplitl [Hb]; · iexact Hb
    isplitl [Hz0 Hk0]
    · isplitl [Hz0] <;> iassumption
    isplitl [Hz1 Hk1]
    · isplitl [Hz1] <;> iassumption
    isplitl [Hz2 Hk2]
    · isplitl [Hz2] <;> iassumption
    isplitl [Hz3] <;> iassumption
  isplitl [HO]; · iexact HO
  isplitl [Hx]; · iexact Hx
  isplitl [Hy] <;> iassumption

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (astg m ρ c) ∗ stg c cc0_stg1_0 (bstg m ρ c) ∗ stg c cc0_stg2_0 (OUT m ρ c))

theorem sound_body (c : Dev nD) : bodyPre m ρ c ⊢ WP c (onK (cc0_body (F := F))) (fun _ => bodyPost m ρ c) := by
  unfold bodyPre Φ₀ start G'
  iintro ⟨⟨⟨⟨%K, HS, Hl⟩, Hc, HL⟩, Hb⟩, Ho, ⟨%d0, %g0, %hg0, Hx⟩, ⟨%d1, %g1, %hg1, Hy⟩, ⟨%d2, %g2, -, Hout⟩⟩
  have hx : g0 = astg m ρ c := by rw [hg0]; unfold Dat.before; rw [if_pos (fetch_0 t0_0)]; rfl
  have hy : g1 = bstg m ρ c := by rw [hg1]; unfold Dat.before; rw [if_pos (fetch_1 t0_0)]; rfl
  subst hx hy
  unfold Dat.owesAt Pipeline.owesWithin
  icases Ho with ⟨%W, %hW, HO⟩
  rw [show (dats m ρ 0 c).owed t0_0.castSucc = O₀ c from rfl]
  have hf : iprop(|={Set.univ}=> WP c (onK (cc0_body (F := F))) (fun _ => bodyPost m ρ c)) ⊢ WP c (onK (cc0_body (F := F))) (fun _ => bodyPost m ρ c) := by
    unfold WP; iintro H; imod H; iexact H
  iapply hf
  imod (pre_intro m ρ K c) $$ [HS Hl Hc HL Hb HO Hx Hy Hout] with ⟨Hu, Hp⟩
  · isplitl [HS]; · iexact HS
    isplitl [Hl]; · iexact Hl
    isplitl [Hc]; · iexact Hc
    isplitl [HL]; · iexact HL
    isplitl [Hb]; · iexact Hb
    isplitl [HO]; · iexists W; iexact HO
    isplitl [Hx]; · iexact Hx
    isplitl [Hy]; · iexact Hy
    iexists _; iexact Hout
  imodintro
  iapply (run_body m ρ K c)
  isplitl [Hp]; · iexact Hp
  iintro Hp
  ihave ⟨HΦ, ⟨%W', HO⟩, Hx, Hy, Ho⟩ := (post_elim m ρ K c) $$ [Hu Hp]
  · isplitl [Hu] <;> iassumption
  unfold bodyPost Dat.owesAt Pipeline.owesWithin
  rw [show (dats m ρ 0 c).owed t0_0.succ = 0 from rfl]
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; · (ipureintro; rfl)
  iexact Ho

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  have h := sound_body m ρ c
  unfold WP at h; simp only [onK] at h
  exact h

/-! ## The launch -/

theorem share_eq (c : Dev nD) (w : Fin cfg0.W) : (dats m ρ 0 c).share w = fullShare := by unfold Dat.share; split <;> rfl

theorem ownSemFacts : Pipeline.OwnSemFacts cfg0.spec osem where
  isScoped k := by
    obtain ⟨k, i⟩ := k
    revert k i; decide
  inj := osem_inj
  disj k w s h := by
    have h1 := congrArg Fin.val (SemLoc.dma.inj h)
    rw [sem4_val] at h1
    have h2 : ∀ (w : Fin cfg0.W) (s), ((cfg0.spec w).sem s).val < 3 := by decide
    have := h2 w s
    omega

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ bufs
  rw [sems0_eq]
  iintro ⟨Hr, HzB, HzS⟩
  isplitl [HzB]; · iexact HzB
  isplitl [HzS]; · iexact HzS
  iexact Hr

omit [FloatOps F] in
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · have h := mayWait (F := F) c (.dma q) (O₀ c) 0
      (by show (if 3 ≤ q.val then (match arrOf q with | 0 => 0 | 1 => 2 | 2 => 0 | 3 => 3) else 0) ≤ 0; rw [if_neg (by omega)])
      (fun g u hg => by
        rcases add_pos_cases hg with h | h
        · rcases add_pos_cases h with h | h
          · rw [(oA_pos h).2]; exact ⟨(oA_pos h).1, by decide⟩
          · rw [(oV_pos h).2]; exact ⟨(oV_pos h).1, by decide⟩
        · rw [(oB_pos h).2]; exact ⟨(oB_pos h).1, by decide⟩)
    unfold levels at h; exact h
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by
      have h2 : ∀ (w : Fin cfg0.W) (s), ((cfg0.spec w).sem s).val < 3 := by decide
      exact h2 w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, whatever the floats are: the 32 kernels terminate, every window's array ends
    at its computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_a (c : Dev nD) : finalA m ρ c (0 : Fin 3) = m ((c : Thread nD τ).loc main_arg0) :=
  (dats (F := F) m ρ 0 c).arrAt_in (0 : Fin 3) rfl _
theorem finalA_b (c : Dev nD) : finalA m ρ c (1 : Fin 3) = m ((c : Thread nD τ).loc main_arg1) :=
  (dats (F := F) m ρ 0 c).arrAt_in (1 : Fin 3) rfl _

/-- The kernel runs and leaves its arguments and the semaphores as they were. -/
theorem run_frame : θ_run defs (onTc (τ := τ) (main (F := F))) (s₀ m ρ) (fun r => (∀ c : Dev nD,
    r.2.mem ((c : Thread nD τ).loc main_arg0) = m ((c : Thread nD τ).loc main_arg0)
    ∧ r.2.mem ((c : Thread nD τ).loc main_arg1) = m ((c : Thread nD τ).loc main_arg1)) ∧ r.2.sem = fun _ => 0) :=
  (θ_run defs _ _).mono (fun r h => ⟨fun c => ⟨(h.1 c (0 : Fin 3)).trans (finalA_a m ρ c), (h.1 c (1 : Fin 3)).trans (finalA_b m ρ c)⟩, h.2⟩) (run_main m ρ)

end Cert.RunProof
end
end
-- ==== Proof.Values.lean ====
/-
What the run leaves in the result buffer, element by element: the kernel's result at the ideal values.
-/
module

public import proofs.«01_k».proof.Proof.Launch
public import Idealize.ShloMosaic.Lib.ValueIdx
public import Idealize.ShloMosaic.Lib.IdealHost
public import Idealize.ShloMosaic.Lib.MatmulPlain
public import Idealize.ShloMosaic.Lib.Pipeline.Value

@[expose] public section

noncomputable section

namespace Cert.RunProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
open Idealize.ShloMosaic.Transfers (shareTokN shareDrop)

variable {F : FTy → Type} [FloatOps F]

variable (m : (ℓ : Loc nD τ sig) → Buf (Elt F) ℓ) (ρ : Dev nD → PrngReg)

set_option maxRecDepth 100000

/-! ## The buffers by their elements -/

/-- Row `i` of block `b` of the product's rows. -/
def rowOf (b : Fin 32) (i : Fin 16) : Fin 512 := ⟨16 * b.val + i.val, by omega⟩

/-- Element `(i, j)` of slot `s` of a landing buffer. -/
theorem rsS_emb (s : Fin 32) (i : Fin 16) (j : Fin 512) : (rsS s).view.emb (ix2 i j) = ix3 s i j := by
  show (slotR s).emb (Shape.reshapeEquiv (s := S1x16x512) (s' := S16x512) squeezes_S1x16x512_S16x512.numel_eq (ix2 i j)) = ix3 s i j
  rw [show Shape.reshapeEquiv (s := S1x16x512) (s' := S16x512) squeezes_S1x16x512_S16x512.numel_eq (ix2 i j)
    = Fin.cons ⟨0, Nat.one_pos⟩ (ix2 i j) from Shape.reshapeEquiv_cons_one _ _]
  funext a
  apply Fin.ext
  rw [Rect.emb_apply]
  match a with
  | ⟨0, _⟩ => show s.val + 1 * 0 = s.val; omega
  | ⟨1, _⟩ => show 0 + 1 * i.val = i.val; omega
  | ⟨2, _⟩ => show 0 + 1 * j.val = j.val; omega

theorem agS_emb (s : Fin 32) (i : Fin 16) (j : Fin 512) : (agS s).view.emb (ix2 i j) = ix3 s i j := rsS_emb s i j

theorem rowsR_emb (b : Fin 32) (i : Fin 16) (j : Fin 512) : (rowsR b).emb (ix2 i j) = ix2 (rowOf b i) j := by
  funext a
  apply Fin.ext
  rw [Rect.emb_apply]
  match a with
  | ⟨0, _⟩ => show 16 * b.val + 1 * i.val = 16 * b.val + i.val; omega
  | ⟨1, _⟩ => show 0 + 1 * j.val = j.val; omega

/-- Slot `s` of the reduce-scatter landing buffer holds the rows of `c` of device `s`'s product. -/
theorem RS_at (c : Dev nD) (s : Fin 32) (i : Fin 16) (j : Fin 512) :
    RS m ρ c (ix3 s i j) = PB m ρ s (ix2 (rowOf c i) j) := by
  have e : RS m ρ c ((rsS s).view.emb (ix2 i j)) = (rsS s).view.write (Elt F) (m ((c : Thread nD τ).loc cc0_scratch2))
      ((pbfR c).view.read (Elt F) (PB m ρ s)) Finset.univ ((rsS s).view.emb (ix2 i j)) := by
    unfold RS
    rw [show slotOf ((rsS s).view.emb (ix2 i j)) = s from by rw [rsS_emb]; rfl]
  rw [View.write_emb_of_mem _ _ (Finset.mem_univ _), rsS_emb] at e
  refine e.trans ?_
  show PB m ρ s ((rowsR c).emb (ix2 i j)) = _
  rw [rowsR_emb]

/-- Slot `s` of the all-gather landing buffer holds the rows device `s` reduced. -/
theorem AG_at (c : Dev nD) (s : Fin 32) (i : Fin 16) (j : Fin 512) :
    AG m ρ c (ix3 s i j) = RED m ρ s (ix2 i j) := by
  have e : AG m ρ c ((agS s).view.emb (ix2 i j)) = (agS s).view.write (Elt F) (m ((c : Thread nD τ).loc cc0_scratch4))
      (redM.view.read (Elt F) (RED m ρ s)) Finset.univ ((agS s).view.emb (ix2 i j)) := by
    unfold AG
    rw [show slotOf ((agS s).view.emb (ix2 i j)) = s from by rw [agS_emb]; rfl]
  rw [View.write_emb_of_mem _ _ (Finset.mem_univ _), agS_emb] at e
  exact e

theorem rsV_at (c s : Dev nD) (i : Fin 16) (j : Fin 512) :
    shapeCast S16x512 (rsV m ρ c s) shapeCasts_S1x16x512_S16x512 (ix2 i j) = PB m ρ s (ix2 (rowOf c i) j) := by
  refine Eq.trans ?_ (RS_at m ρ c s i j)
  rw [← rsS_emb s i j]
  rfl

/-- The result buffer ends with what the kernel computed. -/
theorem finalA_o (c : Dev nD) : finalA m ρ c (2 : Fin 3) = OUT m ρ c := by
  have h : (win0_2.blk (0 : Fin 1)).view.read (Elt F) (finalA m ρ c (2 : Fin 3)) = OUT m ρ c := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  have hz : (fun a => (win0_2.index (0 : Fin 1)) a * main_v1.ty.shape.size a) = fun _ => 0 := funext fun a => by fin_cases a <;> decide
  exact (Memref.read_access_unit_zero (Elt F) main_v1 hz (fun a => by fin_cases a <;> decide) _).symm.trans h

/-- The input windows hold the arguments. -/
theorem astg_eq (c : Dev nD) : astg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem bstg_eq (c : Dev nD) : bstg m ρ c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

/-! ## At the ideal values -/

section AtIdeal

variable (m : (ℓ : Loc nD τ sig) → Buf (Elt Ideal) ℓ)

/-- Element `(a, b)` of device `c`'s partial product. -/
def part (c : Dev nD) (a b : Fin 512) : EReal := PT m ρ c (ix2 a b)

/-- The partial product is the product of the device's two blocks. -/
theorem part_eq (c : Dev nD) (A : (⟨2, ![512, 256]⟩ : Shape).Idx → EReal) (B : (⟨2, ![256, 512]⟩ : Shape).Idx → EReal)
    (hA : m ((c : Thread nD τ).loc main_arg0) = A) (hB : m ((c : Thread nD τ).loc main_arg1) = B) (a b : Fin 512) :
    part ρ m c a b = ∑ k : Fin 256, A (ix2 a k) * B (ix2 k b) := by
  unfold part PT k0_pay1
  rw [astg_eq, bstg_eq, hA, hB]
  rw [shapeCast_self, shapeCast_self, shapeCast_self]
  refine (Ideal.matmul_plain_apply none A B _ a b).trans ?_
  rw [constant_apply, Ideal.ofBits_zero_f32, zero_add]

theorem PB_at (c : Dev nD) (a b : Fin 512) : PB m ρ c (ix2 a b) = part ρ m c a b := by
  unfold PB k0_pay2 part
  rw [shapeCast_self]
  rfl

/-- The sum after `n` peers. -/
theorem ACC_at (c : Dev nD) (i : Fin 16) (j : Fin 512) : ∀ n, ACC m ρ c n (ix2 i j)
    = part ρ m c (rowOf c i) j + ∑ r ∈ Finset.Ico 0 n, part ρ m (pr c r) (rowOf c i) j
  | 0 => by
    rw [Finset.Ico_self, Finset.sum_empty, add_zero]
    unfold part
    rw [← rowsR_emb]
    rfl
  | n + 1 => by
    rw [Finset.sum_Ico_succ_top (Nat.zero_le n), ← add_assoc, ← ACC_at c i j n, ← PB_at, ← rsV_at]
    rfl

/-- The sum over all devices. -/
theorem ACC_all (c : Dev nD) (i : Fin 16) (j : Fin 512) : ACC m ρ c 31 (ix2 i j) = ∑ s : Fin 32, part ρ m s (rowOf c i) j := by
  rw [ACC_at]
  refine Eq.symm ((Finset.sum_congr (univ_peers c) fun _ _ => rfl).trans ?_)
  rw [Finset.sum_insert, Finset.sum_image]
  · intro a ha b hb e
    exact pr_inj (Finset.mem_Ico.mp ha).2 (Finset.mem_Ico.mp hb).2 e
  · intro h
    obtain ⟨r, hr, e⟩ := Finset.mem_image.mp h
    exact pr_ne (Finset.mem_Ico.mp hr).2 e

theorem AG_all (c : Dev nD) (s : Fin 32) (i : Fin 16) (j : Fin 512) :
    AG m ρ c (ix3 s i j) = ∑ p : Fin 32, part ρ m p (rowOf s i) j := by
  rw [AG_at, ← ACC_all]
  unfold RED
  rw [shapeCast_self]
  rfl

/-- What the kernel makes of one element of the summed product. -/
def act (z : EReal) : EReal := Ideal.div z (1 + Ideal.exp (-z))

/-- The result, element by element: the activation of the whole product. -/
theorem OUT_at (c : Dev nD) (a b : Fin 512) : OUT m ρ c (ix2 a b) = act (∑ p : Fin 32, part ρ m p a b) := by
  have hz : shapeCast S512x512 (AG m ρ c) shapeCasts_S32x16x512_S512x512 (ix2 a b) = ∑ p : Fin 32, part ρ m p a b := by
    have ha : rowOf ⟨a.val / 16, by omega⟩ ⟨a.val % 16, Nat.mod_lt _ (by decide)⟩ = a := Fin.ext (by show 16 * (a.val / 16) + a.val % 16 = a.val; omega)
    rw [shapeCast_apply _ _ _ (ix3 (⟨a.val / 16, by omega⟩ : Fin 32) (⟨a.val % 16, Nat.mod_lt _ (by decide)⟩ : Fin 16) b)
      (by
        rw [Shape.rowMajor_val_three, Shape.rowMajor_val_two]
        show (a.val / 16 * 16 + a.val % 16) * 512 + b.val = a.val * 512 + b.val
        omega), AG_all, ha]
  unfold OUT k0_pay19 act
  rw [← hz]
  show Ideal.div _ (Ideal.ofBits .f32 0x3F800000#32 + Ideal.exp (Ideal.ofBits .f32 0x00000000#32 - _)) = _
  rw [Ideal.ofBits_one_f32, Ideal.ofBits_zero_f32, zero_sub]
  rfl

end AtIdeal

end Cert.RunProof
end
end
-- ==== Proof.lean ====
/-
The claims: the three frames, the printed program being its own idealization, and the kernel computing the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Values
public import Idealize.ShloMosaic.Lib.StackMember
public import Idealize.ShloMosaic.Lib.Quiescent

@[expose] public section

noncomputable section

namespace Cert.Proof

open Idealize.ShloMosaic Idealize.SL.Sem
open Idealize.ShloMosaic.ValueIdx Idealize.ShloMosaic.TcCoe

set_option maxRecDepth 100000

/-- The two printed programs have one body table. -/
theorem bodies_eq : Cert.Kernel.defs₀ (F := Bits) = Cert.KernelIdeal.defs₀ (F := Bits) := by
  unfold Cert.Kernel.defs₀ Cert.KernelIdeal.defs₀
  refine congrArg Defs.onTc (funext fun l => ?_)
  match l with
  | ⟨0, _⟩ => rfl
theorem defs_eq : Cert.Kernel.defs (F := Bits) = Cert.KernelIdeal.defs (F := Bits) := by
  unfold Cert.Kernel.defs Cert.KernelIdeal.defs
  exact congrArg (Pipeline.defs Cert.Kernel.pcfgs) bodies_eq

theorem frame_kernel : Cert.quiescent_Kernel := fun m ρ _ => by
  rw [defs_eq]
  exact Cert.RunProof.run_frame (F := Bits) m ρ

theorem frame_ideal : Cert.quiescent_KernelIdeal := fun m ρ _ => Cert.RunProof.run_frame (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-! ## The value -/

/-- A sum over `n * k` positions, block by block. -/
theorem sum_blocks (n k : ℕ) (f : Fin (n * k) → EReal) :
    ∑ t, f t = ∑ s : Fin n, ∑ i : Fin k, f (finProdFinEquiv (s, i)) := by
  rw [← finProdFinEquiv.sum_comp, Fintype.sum_prod_type]

/-- The reference's product, element by element: the sum of the devices' partial products. -/
theorem dot_at (A : (⟨2, ![512, 8192]⟩ : Shape).Idx → EReal) (B : (⟨2, ![8192, 512]⟩ : Shape).Idx → EReal) (a b : Fin 512) :
    (Host.dotGeneral (F := Ideal) (φ₁ := .bf16) (φ₂ := .bf16) Cert.ReferenceIdeal.dot_S512x8192_S8192x512_S512x512_1_0_0_1_n_n none A B) (ix2 a b)
      = ∑ s : Fin 32, ∑ k : Fin 256, (Layout.block ⟨2, ![512, 256]⟩ ⟨2, ![512, 8192]⟩ 1 32 s A) (ix2 a k)
          * (Layout.block ⟨2, ![256, 512]⟩ ⟨2, ![8192, 512]⟩ 0 32 s B) (ix2 k b) := by
  refine (StackMember.dotGeneral_plain_apply (φ₁ := .bf16) (φ₂ := .bf16) none A B a b).trans ((sum_blocks 32 256 fun t => A (ix2 a t) * B (ix2 t b)).trans ?_)
  refine Finset.sum_congr rfl fun s _ => Finset.sum_congr rfl fun k _ => ?_
  rw [Layout.block_apply, Layout.block_apply]
  refine congrArg₂ (· * ·) (congrArg A ?_) (congrArg B ?_)
  · funext d
    apply Fin.ext
    rw [Layout.Tiles.idx_val]
    match d with
    | ⟨0, _⟩ => rfl
    | ⟨1, _⟩ => show k.val + 256 * s.val = s.val * 256 + k.val; omega
  · funext d
    apply Fin.ext
    rw [Layout.Tiles.idx_val]
    match d with
    | ⟨0, _⟩ => show k.val + 256 * s.val = s.val * 256 + k.val; omega
    | ⟨1, _⟩ => rfl

theorem algebraic : Cert.algebraic_KernelIdeal_ReferenceIdeal := by
  intro m ρ m' ρ' _ hagree
  refine ⟨_, ?_, (θ_run Cert.ReferenceIdeal.defs _ _).mono (fun _ h => h 0) (Cert.ReferenceIdeal.Value.run m' ρ')⟩
  refine (θ_run Cert.KernelIdeal.defs _ _).mono (fun r h c =>
      ⟨(h.1 c (2 : Fin 3)).trans ((Cert.RunProof.finalA_o m ρ c).trans ?_), (h.1 c (0 : Fin 3)).trans (Cert.RunProof.finalA_a m ρ c),
        (h.1 c (1 : Fin 3)).trans (Cert.RunProof.finalA_b m ρ c)⟩) (Cert.RunProof.run_main (F := Ideal) m ρ)
  funext i
  obtain ⟨a, b, rfl⟩ : ∃ a b : Fin 512, i = ix2 a b := ⟨_, _, eq_ix2 i⟩
  rw [Cert.RunProof.OUT_at, Finset.sum_congr rfl fun s _ => Cert.RunProof.part_eq ρ m s _ _ (hagree s).1 (hagree s).2 a b,
    ← dot_at]
  show _ = Ideal.div _ (Ideal.ofBits .bf16 0x3F80#16 + Ideal.exp (-_))
  rw [Ideal.ofBits_one_bf16]
  rfl

theorem claim : Cert.Claim := ⟨Cert.Kernel.Gen.facts, Cert.KernelIdeal.Gen.facts, Cert.ReferenceIdeal.Gen.facts,
  frame_kernel, frame_ideal, frame_reference, trivial, algebraic⟩

end Cert.Proof

end
